-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![2, 1024, 16, 64]⟩ ⟨4, ![2, 1024, 32, 64]⟩ (Layout.meshBlock [2, 2, 4] ![[], [], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 2048]⟩ ⟨2, ![2048, 2048]⟩ (Layout.meshBlock [2, 2, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨3, ![2, 512, 2048]⟩ ⟨3, ![2, 1024, 2048]⟩ (Layout.meshBlock [2, 2, 4] ![[], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x16x64 : Shape := ⟨4, ![2, 1024, 16, 64]⟩
abbrev S1024x2048 : Shape := ⟨2, ![1024, 2048]⟩
abbrev S2x1024x1024 : Shape := ⟨3, ![2, 1024, 1024]⟩
abbrev S2x512x2048 : Shape := ⟨3, ![2, 512, 2048]⟩
abbrev S4x128x1024 : Shape := ⟨3, ![4, 128, 1024]⟩
abbrev S4 : Shape := ⟨1, ![4]⟩
abbrev S_ : Shape := ⟨0, ![]⟩
abbrev S8 : Shape := ⟨1, ![8]⟩
abbrev S1 : Shape := ⟨1, ![1]⟩
abbrev S1x128x1024 : Shape := ⟨3, ![1, 128, 1024]⟩
abbrev S128x1024 : Shape := ⟨2, ![128, 1024]⟩
abbrev S128x2048 : Shape := ⟨2, ![128, 2048]⟩
abbrev S1x128x2048 : Shape := ⟨3, ![1, 128, 2048]⟩

abbrev nBuf : Space → Nat
  | .hbm => 4
  | .vmem => 5
  | .smem => 0
  | _ => 0

abbrev bufTy : (tb : Table) → Fin (tcTables nBuf tb) → BufTy
  | .hbm, ⟨0, _⟩ => ⟨S2x1024x16x64, .f32⟩
  | .hbm, ⟨1, _⟩ => ⟨S1024x2048, .f32⟩
  | .hbm, ⟨2, _⟩ => ⟨S2x1024x1024, .f32⟩
  | .hbm, ⟨3, _⟩ => ⟨S2x512x2048, .f32⟩
  | .local _ .vmem, ⟨0, _⟩ => ⟨S2x512x2048, .f32⟩
  | .local _ .vmem, ⟨1, _⟩ => ⟨S4x128x1024, .f32⟩
  | .local _ .vmem, ⟨2, _⟩ => ⟨S1024x2048, .f32⟩
  | .local _ .vmem, ⟨3, _⟩ => ⟨S2x512x2048, .f32⟩
  | .local _ .vmem, ⟨4, _⟩ => ⟨S2x512x2048, .f32⟩
  | _, _ => ⟨S2x1024x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) (c0_i32 : BitVec 32) : Fin 3 → Nat :=
  let c0_i32_16 : BitVec 32 := 0#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c512_i32 : BitVec 32 := 512#32
  let v10 : BitVec 32 := Scalar.muli v9 c512_i32
  let v12 : BitVec 32 := Scalar.addi v10 c0_i32
  let c0_i32_21 : BitVec 32 := 0#32
  ![0, v12.toNat, 0]
def k0_dev1 (d0 : Dev nD) : Nat :=
  let c0_i32_41 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_40 : BitVec 32 := 8#32
  let v53 : BitVec 32 := Scalar.muli v2 c8_i32_40
  let v54 : BitVec 32 := Scalar.addi c0_i32_41 v53
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_42 : BitVec 32 := 4#32
  let v55 : BitVec 32 := Scalar.muli v9 c4_i32_42
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v57 : BitVec 32 := Scalar.muli v8 c1_i32_43
  let v58 : BitVec 32 := Scalar.addi v56 v57
  v58.toNat
def k0_off2 (d0 : Dev nD) (c0_i32_4 : BitVec 32) : Fin 3 → Nat :=
  let c1_i32_58 : BitVec 32 := 1#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c512_i32 : BitVec 32 := 512#32
  let v10 : BitVec 32 := Scalar.muli v9 c512_i32
  let v16 : BitVec 32 := Scalar.addi v10 c0_i32_4
  let c0_i32_63 : BitVec 32 := 0#32
  ![1, v16.toNat, 0]
def k0_dev2 (d0 : Dev nD) : Nat :=
  let c0_i32_69 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_68 : BitVec 32 := 8#32
  let v78 : BitVec 32 := Scalar.muli v2 c8_i32_68
  let v79 : BitVec 32 := Scalar.addi c0_i32_69 v78
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_70 : BitVec 32 := 4#32
  let v80 : BitVec 32 := Scalar.muli v9 c4_i32_70
  let v81 : BitVec 32 := Scalar.addi v79 v80
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v82 : BitVec 32 := Scalar.muli v8 c1_i32_71
  let v83 : BitVec 32 := Scalar.addi v81 v82
  v83.toNat
def k0_dev3 (d0 : Dev nD) : Nat :=
  let c0_i32_100 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_99 : BitVec 32 := 8#32
  let v111 : BitVec 32 := Scalar.muli v2 c8_i32_99
  let v112 : BitVec 32 := Scalar.addi c0_i32_100 v111
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_101 : BitVec 32 := 4#32
  let v113 : BitVec 32 := Scalar.muli v9 c4_i32_101
  let v114 : BitVec 32 := Scalar.addi v112 v113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_102 : BitVec 32 := 1#32
  let v115 : BitVec 32 := Scalar.muli v8 c1_i32_102
  let v116 : BitVec 32 := Scalar.addi v114 v115
  v116.toNat
def k0_dev4 (d0 : Dev nD) : Nat :=
  let c0_i32_131 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_130 : BitVec 32 := 8#32
  let v144 : BitVec 32 := Scalar.muli v2 c8_i32_130
  let v145 : BitVec 32 := Scalar.addi c0_i32_131 v144
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_132 : BitVec 32 := 4#32
  let v146 : BitVec 32 := Scalar.muli v9 c4_i32_132
  let v147 : BitVec 32 := Scalar.addi v145 v146
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_133 : BitVec 32 := 1#32
  let v148 : BitVec 32 := Scalar.muli v8 c1_i32_133
  let v149 : BitVec 32 := Scalar.addi v147 v148
  v149.toNat
def k0_dev5 (d0 : Dev nD) : Nat :=
  let c0_i32_162 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_161 : BitVec 32 := 8#32
  let v177 : BitVec 32 := Scalar.muli v2 c8_i32_161
  let v178 : BitVec 32 := Scalar.addi c0_i32_162 v177
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_163 : BitVec 32 := 4#32
  let v179 : BitVec 32 := Scalar.muli v9 c4_i32_163
  let v180 : BitVec 32 := Scalar.addi v178 v179
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_164 : BitVec 32 := 1#32
  let v181 : BitVec 32 := Scalar.muli v8 c1_i32_164
  let v182 : BitVec 32 := Scalar.addi v180 v181
  v182.toNat
def k0_off3 (d0 : Dev nD) (c0_i32_8 : BitVec 32) : Fin 3 → Nat :=
  let c0_i32_184 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_3 : BitVec 32 := 512#32
  let v11 : BitVec 32 := Scalar.muli v5 c512_i32_3
  let v20 : BitVec 32 := Scalar.addi v11 c0_i32_8
  let c0_i32_189 : BitVec 32 := 0#32
  ![0, v20.toNat, 0]
def k0_dev6 (d0 : Dev nD) : Nat :=
  let c0_i32_195 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_194 : BitVec 32 := 8#32
  let v210 : BitVec 32 := Scalar.muli v2 c8_i32_194
  let v211 : BitVec 32 := Scalar.addi c0_i32_195 v210
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_196 : BitVec 32 := 4#32
  let v212 : BitVec 32 := Scalar.muli v9 c4_i32_196
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_197 : BitVec 32 := 1#32
  let v214 : BitVec 32 := Scalar.muli v8 c1_i32_197
  let v215 : BitVec 32 := Scalar.addi v213 v214
  v215.toNat
def k0_dev7 (d0 : Dev nD) : Nat :=
  let c0_i32_227 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_226 : BitVec 32 := 8#32
  let v243 : BitVec 32 := Scalar.muli v2 c8_i32_226
  let v244 : BitVec 32 := Scalar.addi c0_i32_227 v243
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_228 : BitVec 32 := 4#32
  let v245 : BitVec 32 := Scalar.muli v9 c4_i32_228
  let v246 : BitVec 32 := Scalar.addi v244 v245
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_229 : BitVec 32 := 1#32
  let v247 : BitVec 32 := Scalar.muli v8 c1_i32_229
  let v248 : BitVec 32 := Scalar.addi v246 v247
  v248.toNat
def k0_dev8 (d0 : Dev nD) : Nat :=
  let c0_i32_259 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_258 : BitVec 32 := 8#32
  let v276 : BitVec 32 := Scalar.muli v2 c8_i32_258
  let v277 : BitVec 32 := Scalar.addi c0_i32_259 v276
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_260 : BitVec 32 := 4#32
  let v278 : BitVec 32 := Scalar.muli v9 c4_i32_260
  let v279 : BitVec 32 := Scalar.addi v277 v278
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_261 : BitVec 32 := 1#32
  let v280 : BitVec 32 := Scalar.muli v8 c1_i32_261
  let v281 : BitVec 32 := Scalar.addi v279 v280
  v281.toNat
def k0_dev9 (d0 : Dev nD) : Nat :=
  let c0_i32_291 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_290 : BitVec 32 := 8#32
  let v309 : BitVec 32 := Scalar.muli v2 c8_i32_290
  let v310 : BitVec 32 := Scalar.addi c0_i32_291 v309
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_292 : BitVec 32 := 4#32
  let v311 : BitVec 32 := Scalar.muli v9 c4_i32_292
  let v312 : BitVec 32 := Scalar.addi v310 v311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_293 : BitVec 32 := 1#32
  let v313 : BitVec 32 := Scalar.muli v8 c1_i32_293
  let v314 : BitVec 32 := Scalar.addi v312 v313
  v314.toNat
def k0_off4 (d0 : Dev nD) (c0_i32_12 : BitVec 32) : Fin 3 → Nat :=
  let c1_i32_313 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_3 : BitVec 32 := 512#32
  let v11 : BitVec 32 := Scalar.muli v5 c512_i32_3
  let v24 : BitVec 32 := Scalar.addi v11 c0_i32_12
  let c0_i32_318 : BitVec 32 := 0#32
  ![1, v24.toNat, 0]
abbrev stage0_0 : Fin 1 → Memref sig .tc .vmem S2x512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x1024x32x64 : Shape := ⟨4, ![2, 1024, 32, 64]⟩
abbrev S2048x2048 : Shape := ⟨2, ![2048, 2048]⟩
abbrev S2x1024x2048 : Shape := ⟨3, ![2, 1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x1024x32x64, .f32⟩
  | .hbm, ⟨1, _⟩ => ⟨S2048x2048, .f32⟩
  | .hbm, ⟨2, _⟩ => ⟨S2x1024x2048, .f32⟩
  | .hbm, ⟨3, _⟩ => ⟨S2x1024x2048, .f32⟩
  | _, _ => ⟨S2x1024x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Base.lean ====
/-
  The ground of the proof: the resource algebra, views held at known values, and one rule per kind of
  memory operation over such views.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Transfers
public import Idealize.ShloMosaic.Lib.Ring
public import Idealize.ShloMosaic.Lib.ViewIndex
public import Idealize.ShloMosaic.Lib.Pipeline.Regions
public import Idealize.ShloMosaic.Lib.Pipeline.Kit
public import Idealize.ShloMosaic.Lib.Tactic

@[expose] public section

noncomputable section

namespace Cert.OProj

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's cells, the exchange's cells, the local transfers' counters -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds library: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-- The local transfers' counters. -/
abbrev EC : UEmb Counters (MT nD τ sig Unit (Elt F) ℕ UU ℕ) := countersEmb (U := UU)

abbrev 𝒱₀ : Variants := Variants.none

/-! ## Views held at known values -/

/-- The elements under the view `v` on core `c`, owned outright and reading `Z`. -/
def ownV (c : Dev nD) {sp : Space} {s : Shape} {e : EltTy} (v : View sig .tc sp s e) (Z : s.Idx → Elt F e) : sProp 𝕄 :=
  iprop(∃ f, ⌜v.read (Elt F) f = Z⌝ ∗ (v.loc (c : Thread nD τ) ↦[v.set]{fullShare} f))

/-- The elements under the view `v` on core `c`, owned outright at any contents. -/
def anyV (F : FTy → Type) (c : Dev nD) {sp : Space} {s : Shape} {e : EltTy} (v : View sig .tc sp s e) :
    sProp (MT nD τ sig Unit (Elt F) ℕ UU ℕ) :=
  iprop(∃ f, (v.loc (c : Thread nD τ) ↦[v.set]{fullShare} f))

instance ownV_storable (c : Dev nD) {sp : Space} {s : Shape} {e : EltTy} (v : View sig .tc sp s e) (Z : s.Idx → Elt F e) :
    BI.Storable (upEmb : UEmb _ 𝕄) (ownV c v Z) := by unfold ownV; infer_instance
instance anyV_storable (c : Dev nD) {sp : Space} {s : Shape} {e : EltTy} (v : View sig .tc sp s e) :
    BI.Storable (upEmb : UEmb _ 𝕄) (anyV F c v) := by unfold anyV; infer_instance

/-- Values known are values of some kind. -/
theorem ownV_any (c : Dev nD) {sp : Space} {s : Shape} {e : EltTy} (v : View sig .tc sp s e) (Z : s.Idx → Elt F e) :
    ownV c v Z ⊢ (anyV F c v : sProp 𝕄) := by
  unfold ownV anyV
  iintro ⟨%f, -, H⟩; iexists f; iexact H

section Rules

variable {α : Type} {Q : α → sProp (MT nD τ sig Unit (Elt F) ℕ UU ℕ)}

/-- A load of a rectangle held at `Z` reads `Z`. -/
theorem wp_load_own (c : Dev nD) {cs : CoreSpace} {s : Shape} {e : EltTy} {m : Memref sig .tc cs s e} {r : Rect s}
    {hl : m.view.LoadsAt r} {k : (r.shape.Idx → Elt F e) → Prog (TpuEff nD τ sig (Elt F) Λ₀ .tc) α} (Z : r.shape.Idx → Elt F e) :
    ownV c (m.access r) Z
      ⊢ iprop((ownV c (m.access r) Z -∗ wp frame (wpE (defs₀ (F := F)) 𝒱₀ (c : Thread nD τ) none) Set.univ (k Z) Q)
        -∗ wp frame (wpE (defs₀ (F := F)) 𝒱₀ (c : Thread nD τ) none) Set.univ (.op (.load m r hl) k) Q) := by
  unfold ownV
  iintro ⟨%f, %hf, H⟩ Hk
  subst hf
  iapply (wp_load_rect 𝒱₀ (c : Thread nD τ) none Set.univ (m := m) (r := r) subset_rfl) $$ H
  iintro H
  iapply Hk
  iexists f
  isplitr; · ipureintro; rfl
  iexact H

/-- A load of a rectangle held at unknown contents reads some values. -/
theorem wp_load_any (c : Dev nD) {cs : CoreSpace} {s : Shape} {e : EltTy} {m : Memref sig .tc cs s e} {r : Rect s}
    {hl : m.view.LoadsAt r} {k : (r.shape.Idx → Elt F e) → Prog (TpuEff nD τ sig (Elt F) Λ₀ .tc) α} :
    anyV F c (m.access r)
      ⊢ iprop((∀ Z, anyV F c (m.access r) -∗ wp frame (wpE (defs₀ (F := F)) 𝒱₀ (c : Thread nD τ) none) Set.univ (k Z) Q)
        -∗ wp frame (wpE (defs₀ (F := F)) 𝒱₀ (c : Thread nD τ) none) Set.univ (.op (.load m r hl) k) Q) := by
  unfold anyV
  iintro ⟨%f, H⟩ Hk
  iapply (wp_load_rect 𝒱₀ (c : Thread nD τ) none Set.univ (m := m) (r := r) subset_rfl) $$ H
  iintro H
  iapply Hk
  iexists f; iexact H

/-- A store of a whole rectangle leaves it holding what was stored. -/
theorem wp_store_own (c : Dev nD) {cs : CoreSpace} {s : Shape} {e : EltTy} {m : Memref sig .tc cs s e} {r : Rect s}
    {w : r.shape.Idx → Elt F e} {hx : (m.access r).Stores Finset.univ} {hm : Finset.univ = Finset.univ ∨ ∀ a, r.stride a = 1}
    {k : PUnit → Prog (TpuEff nD τ sig (Elt F) Λ₀ .tc) α} :
    anyV F c (m.access r)
      ⊢ iprop((ownV c (m.access r) w -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  unfold anyV ownV
  iintro ⟨%f, H⟩ Hk
  rw [← View.setOn_univ]
  iapply (wp_store 𝒱₀ (c : Thread nD τ) none Set.univ (m := m) (r := r) (Mk := Finset.univ) subset_rfl) $$ H
  iintro H
  rw [View.setOn_univ]
  iapply Hk
  iexists _
  isplitr; swap; (· iexact H)
  ipureintro; exact View.read_write_univ _ _

end Rules

/-! ## A transfer between two re-indexed views of one shape -/

/-- Re-indexing both ends of a copy to a common shape copies the values of the views themselves. -/
theorem read_write_squeezed {sp sp' : Space} {s s' : Shape} {e : EltTy} (v : View sig .tc sp s e) (w : View sig .tc sp' s e)
    (h h' : s'.numel = s.numel) (fv : v.ty.Contents (Elt F)) (fw : w.ty.Contents (Elt F)) :
    w.read (Elt F) ((w.reshape s' h').write (Elt F) fw ((v.reshape s' h).read (Elt F) fv) Finset.univ) = v.read (Elt F) fv := by
  funext x
  obtain ⟨y, rfl⟩ := (Shape.reshapeEquiv h').surjective x
  rw [View.read_write_reshape]
  rfl

end Cert.OProj

end
-- ==== Proof.Protocol.lean ====
/-
  The exchange of the two devices that share a half of the model axis, as a schedule of semaphore cells.

  Device `c` has a peer: the device of the same `x` and `z` and the other `y`. Each multiplies sixteen pieces of
  128 rows: pieces 0–7 are the peer's rows and leave on remote copies 0–7, pieces 8–15 are its own.
  Per device there are seventeen cells of one round each:
  * the barrier: the peer signals one unit, handing over the right to write every chunk of its receive buffer, and that
    its receive cells are open;
  * send cell `i`: raised by the device's own copy `i` having left, handing back chunk `i` of the send buffer;
  * receive cell `i`: raised by the peer's copy `i` having landed, handing over chunk `i` of the receive buffer, which
    then holds the peer's product for that chunk.
-/
module

public import proofs.«01_k».proof.Proof.Base

@[expose] public section

noncomputable section

namespace Cert.OProj

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The peer -/

/-- The device of the same `x` and `z` and the other `y`. -/
def peer (c : Dev nD) : Dev nD := ⟨(8 * (c.val / 8) + c.val % 4 + 4) - 4 * ((c.val / 4) % 2), by have := c.isLt; change _ < 16; change c.val < 16 at this; omega⟩

theorem peer_peer (c : Dev nD) : peer (peer c) = c := by
  apply Fin.ext; have := c.isLt; change c.val < 16 at this; simp only [peer]; omega

theorem peer_y (c : Dev nD) : ((peer c).val / 4) % 2 = 1 - (c.val / 4) % 2 := by
  have := c.isLt; change c.val < 16 at this; simp only [peer]; omega

theorem peer_injective : Function.Injective peer := fun a b h => by rw [← peer_peer a, h, peer_peer]

/-- The peer as a permutation of the devices. -/
def peerEquiv : Dev nD ≃ Dev nD := ⟨peer, peer, peer_peer, peer_peer⟩

/-! ## The windows -/

/-- Where chunk `i` of a `[2, 512, 2048]` buffer begins: batch `i / 4`, row `128 (i % 4)`. -/
abbrev chOff (i : ℕ) : Fin 3 → ℕ := ![(i / 4) % 2, 128 * (i % 4), 0]
theorem chInb (i : ℕ) : ∀ a, chOff i a + S1x128x2048.size a ≤ S2x512x2048.size a := by
  intro a
  match a with
  | 0 => show (i / 4) % 2 + 1 ≤ 2; omega
  | 1 => show 128 * (i % 4) + 128 ≤ 512; omega
  | 2 => show 0 + 2048 ≤ 2048; omega
/-- Chunk `i`. -/
abbrev chR (i : ℕ) : Rect S2x512x2048 := Rect.unit (s := S2x512x2048) (chOff i) S1x128x2048.size (chInb i)

/-- Where slot `s` of the input buffer begins. -/
abbrev slOff (s : ℕ) : Fin 3 → ℕ := ![s % 4, 0, 0]
theorem slInb (s : ℕ) : ∀ a, slOff s a + S1x128x1024.size a ≤ S4x128x1024.size a := by
  intro a
  match a with
  | 0 => show s % 4 + 1 ≤ 4; omega
  | 1 => show 0 + 128 ≤ 128; omega
  | 2 => show 0 + 1024 ≤ 1024; omega
abbrev slR (s : ℕ) : Rect S4x128x1024 := Rect.unit (s := S4x128x1024) (slOff s) S1x128x1024.size (slInb s)

/-- Where piece `k`'s rows begin in the activations of device `c`: batch `(k / 4) % 2`; the peer's half of the rows for
    `k < 8`, the device's own half after. -/
def srcOff (c : Dev nD) (k : ℕ) : Fin 3 → ℕ :=
  ![(k / 4) % 2, (if k < 8 then 512 * (1 - (c.val / 4) % 2) else 512 * ((c.val / 4) % 2)) + 128 * (k % 4), 0]
theorem srcInb (c : Dev nD) (k : ℕ) : ∀ a, srcOff c k a + S1x128x1024.size a ≤ S2x1024x1024.size a := by
  intro a
  match a with
  | 0 => show (k / 4) % 2 + 1 ≤ 2; omega
  | 1 => show (if k < 8 then 512 * (1 - (c.val / 4) % 2) else 512 * ((c.val / 4) % 2)) + 128 * (k % 4) + 128 ≤ 1024; split <;> omega
  | 2 => show 0 + 1024 ≤ 1024; omega
abbrev srcR (c : Dev nD) (k : ℕ) : Rect S2x1024x1024 := Rect.unit (s := S2x1024x1024) (srcOff c k) S1x128x1024.size (srcInb c k)

/-- Eight chunks are pairwise disjoint. -/
theorem chR_disjoint {i j : ℕ} (hi : i < 8) (hj : j < 8) (h : i ≠ j) : Disjoint (chR i).set (chR j).set := by
  by_cases h0 : i / 4 = j / 4
  · refine Rect.unit_disjoint (a := (1 : Fin 3)) ?_
    show 128 * (i % 4) + 128 ≤ 128 * (j % 4) ∨ 128 * (j % 4) + 128 ≤ 128 * (i % 4)
    omega
  · refine Rect.unit_disjoint (a := (0 : Fin 3)) ?_
    show (i / 4) % 2 + 1 ≤ (j / 4) % 2 ∨ (j / 4) % 2 + 1 ≤ (i / 4) % 2
    omega

/-- Eight chunks cover the buffer. -/
theorem chR_cover : (Finset.univ : Finset (Fin 8)).biUnion (fun i => (chR i.val).set) = Finset.univ := by
  ext x
  simp only [Finset.mem_biUnion, Finset.mem_univ, true_and, iff_true]
  have h0 : (x 0 : ℕ) < 2 := (x 0).isLt
  have h1 : (x 1 : ℕ) < 512 := (x 1).isLt
  have h2 : (x 2 : ℕ) < 2048 := (x 2).isLt
  refine ⟨⟨4 * (x 0 : ℕ) + (x 1 : ℕ) / 128, by omega⟩, ?_⟩
  rw [Rect.mem_set_unit]
  intro a
  match a with
  | 0 => show (4 * (x 0 : ℕ) + (x 1 : ℕ) / 128) / 4 % 2 ≤ (x 0 : ℕ) ∧ (x 0 : ℕ) < (4 * (x 0 : ℕ) + (x 1 : ℕ) / 128) / 4 % 2 + 1; omega
  | 1 => show 128 * ((4 * (x 0 : ℕ) + (x 1 : ℕ) / 128) % 4) ≤ (x 1 : ℕ) ∧ (x 1 : ℕ) < 128 * ((4 * (x 0 : ℕ) + (x 1 : ℕ) / 128) % 4) + 128; omega
  | 2 => show 0 ≤ (x 2 : ℕ) ∧ (x 2 : ℕ) < 0 + 2048; omega

/-- Four slots are pairwise disjoint. -/
theorem slR_disjoint {i j : ℕ} (hi : i < 4) (hj : j < 4) (h : i ≠ j) : Disjoint (slR i).set (slR j).set := by
  refine Rect.unit_disjoint (a := (0 : Fin 3)) ?_
  show i % 4 + 1 ≤ j % 4 ∨ j % 4 + 1 ≤ i % 4
  omega

/-- Four slots cover the input buffer. -/
theorem slR_cover : (Finset.univ : Finset (Fin 4)).biUnion (fun i => (slR i.val).set) = Finset.univ := by
  ext x
  simp only [Finset.mem_biUnion, Finset.mem_univ, true_and, iff_true]
  have h0 : (x 0 : ℕ) < 4 := (x 0).isLt
  have h1 : (x 1 : ℕ) < 128 := (x 1).isLt
  have h2 : (x 2 : ℕ) < 1024 := (x 2).isLt
  refine ⟨⟨(x 0 : ℕ), h0⟩, ?_⟩
  rw [Rect.mem_set_unit]
  intro a
  match a with
  | 0 => show (x 0 : ℕ) % 4 ≤ (x 0 : ℕ) ∧ (x 0 : ℕ) < (x 0 : ℕ) % 4 + 1; omega
  | 1 => show 0 ≤ (x 1 : ℕ) ∧ (x 1 : ℕ) < 0 + 128; omega
  | 2 => show 0 ≤ (x 2 : ℕ) ∧ (x 2 : ℕ) < 0 + 1024; omega

/-! ## The buffers, as the kernel's arguments name them -/

abbrev xM : Memref sig .tc .hbm S2x1024x1024 .f32 := Memref.whole main_v1
abbrev wM : Memref sig .tc .hbm S1024x2048 .f32 := Memref.whole main_arg1
abbrev outM : Memref sig .tc .vmem S2x512x2048 .f32 := Memref.whole cc0_stg0_0
abbrev inM : Memref sig .tc .vmem S4x128x1024 .f32 := Memref.whole cc0_scratch0
abbrev wbM : Memref sig .tc .vmem S1024x2048 .f32 := Memref.whole cc0_scratch1
abbrev sendM : Memref sig .tc .vmem S2x512x2048 .f32 := Memref.whole cc0_scratch2
abbrev recvM : Memref sig .tc .vmem S2x512x2048 .f32 := Memref.whole cc0_scratch3

/-- Chunk `i` of a buffer, as a transfer names it. -/
abbrev chM (M : Memref sig .tc .vmem S2x512x2048 .f32) (i : ℕ) : Memref sig .tc .vmem S128x2048 .f32 :=
  (M.slice (chR i) (fun _ => rfl)).squeeze S128x2048 squeezes_S1x128x2048_S128x2048
/-- Slot `s` of the input buffer, as a transfer names it. -/
abbrev slM (s : ℕ) : Memref sig .tc .vmem S128x1024 .f32 :=
  (inM.slice (slR s) (fun _ => rfl)).squeeze S128x1024 squeezes_S1x128x1024_S128x1024

/-! ## The semaphores -/

theorem semInb4 (s : ℕ) : ∀ a, (![s % 4] : Fin 1 → ℕ) a + S1.size a ≤ S4.size a := by
  intro a
  match a with
  | 0 => show s % 4 + 1 ≤ 4; omega
theorem semInb8 (s : ℕ) : ∀ a, (![s % 8] : Fin 1 → ℕ) a + S1.size a ≤ S8.size a := by
  intro a
  match a with
  | 0 => show s % 8 + 1 ≤ 8; omega

/-- Slot `s`'s semaphore. -/
abbrev slotSem (s : ℕ) : DmaSem sig :=
  ((cc0_scratch4.slice (Rect.unit (s := S4) ![s % 4] S1.size (semInb4 s))).squeeze S_ squeezes_S1_S_).sem
/-- The weights' semaphore. -/
abbrev wSem : DmaSem sig := (cc0_scratch5 : DmaSems sig S_).sem
/-- The semaphore of copy `i` leaving. -/
abbrev sendSem (i : ℕ) : DmaSem sig :=
  ((cc0_scratch6.slice (Rect.unit (s := S8) ![i % 8] S1.size (semInb8 i))).squeeze S_ squeezes_S1_S_).sem
/-- The semaphore of the peer's copy `i` landing. -/
abbrev recvSem (i : ℕ) : DmaSem sig :=
  ((cc0_scratch7.slice (Rect.unit (s := S8) ![i % 8] S1.size (semInb8 i))).squeeze S_ squeezes_S1_S_).sem
/-- The barrier semaphore. -/
abbrev barS : Sem sig := (SemArray.scalar (sig.barrier 0 rfl) : Sems sig S_).sem

theorem slotSem_val {s : ℕ} (h : s < 4) : (slotSem s).val = 1 + s := by
  interval_cases s <;> decide
theorem sendSem_val {i : ℕ} (h : i < 8) : (sendSem i).val = 6 + i := by
  interval_cases i <;> decide
theorem recvSem_val {i : ℕ} (h : i < 8) : (recvSem i).val = 14 + i := by
  interval_cases i <;> decide
theorem wSem_val : wSem.val = 5 := by decide

abbrev barCell (c : Dev nD) : GSem nD τ sig := ((c : Thread nD τ), .reg barS)
abbrev sendCell (c : Dev nD) (i : ℕ) : GSem nD τ sig := ((c : Thread nD τ), .dma (sendSem i))
abbrev recvCell (c : Dev nD) (i : ℕ) : GSem nD τ sig := ((c : Thread nD τ), .dma (recvSem i))

/-- What a semaphore is for. -/
inductive Role
  | bar
  | send (i : ℕ)
  | recv (i : ℕ)
  | other

/-- The role of each semaphore, by its number. -/
def role : SemLoc sig → Role
  | .reg _ => .bar
  | .dma s => if s.val < 6 then .other else if s.val < 14 then .send (s.val - 6) else .recv (s.val - 14)

theorem role_send {i : ℕ} (h : i < 8) : role (.dma (sendSem i)) = .send i := by
  unfold role; simp only [sendSem_val h]
  rw [if_neg (by omega), if_pos (by omega)]; congr 1; omega
theorem role_recv {i : ℕ} (h : i < 8) : role (.dma (recvSem i)) = .recv i := by
  unfold role; simp only [recvSem_val h]
  rw [if_neg (by omega), if_neg (by omega)]; congr 1; omega
theorem role_bar : role (.reg barS) = .bar := rfl
theorem role_slot {s : ℕ} (h : s < 4) : role (.dma (slotSem s)) = .other := by
  unfold role; simp only [slotSem_val h]
  rw [if_pos (by omega)]

/-! ## The values -/

section Values

variable (X : Dev nD → main_v1.ty.Contents (Elt F)) (W : Dev nD → main_arg1.ty.Contents (Elt F))

/-- Piece `k` of device `c`'s activations. -/
def rows (c : Dev nD) (k : ℕ) : S1x128x1024.Idx → Elt F .f32 := (xM.access (srcR c k)).read (Elt F) (X c)
/-- Piece `k` times the device's weights. -/
def prod (c : Dev nD) (k : ℕ) : S1x128x2048.Idx → Elt F .f32 := k0_pay1 (rows X c k) (W c)
/-- Chunk `i` of the result on device `c`: its own product and the peer's. -/
def outV (c : Dev nD) (i : ℕ) : S1x128x2048.Idx → Elt F .f32 := k0_pay19 (prod X W c (8 + i)) (prod X W (peer c) i)

/-! ## The schedule -/

/-- The units a copy of one chunk counts. -/
def NN : ℕ := (chM recvM 0).view.dmaCredit
theorem NN_pos : 0 < NN := View.dmaCredit_pos _ (by decide)

/-- What the round of a cell of role `r` on device `c` hands over. -/
def pay (c : Dev nD) : Role → sProp 𝕄
  | .bar => iprop((bigSep (Finset.range 8) fun i => anyV F (peer c) (recvM.access (chR i)))
      ∗ bigSep (Finset.range 8) fun i => reached ER (recvCell (peer c) i) 0)
  | .send i => ownV c (sendM.access (chR i)) (prod X W c i)
  | .recv i => ownV c (recvM.access (chR i)) (prod X W (peer c) i)
  | .other => iprop(emp)

/-- One round per cell of the exchange, of one duty. -/
def Rd : Rounds.Schedule (GSem nD τ sig) Unit 𝕄 where
  duties g r := if r = 0 ∧ g.1.2 = .tc then (match role g.2 with | .other => ∅ | _ => {()}) else ∅
  amount g _ _ := match role g.2 with | .bar => 1 | _ => NN
  payload g _ _ := pay X W g.1.1 (role g.2)
  amount_pos g _ _ _ := by
    split
    · exact Nat.one_pos
    · exact NN_pos

instance pay_storable (c : Dev nD) (r : Role) : BI.Storable (upEmb : UEmb _ 𝕄) (pay X W c r) := by
  cases r <;> simp only [pay] <;> infer_instance
instance Rd_payload_storable (g : GSem nD τ sig) (r : ℕ) (d : Unit) : BI.Storable (upEmb : UEmb _ 𝕄) ((Rd X W).payload g r d) := by
  show BI.Storable _ (pay X W _ _); infer_instance

theorem unitless_not (g : GSem nD τ sig) : ¬(Rd X W).unitless g := fun h => h

theorem duties_bar (c : Dev nD) : (Rd X W).duties (barCell c) 0 = {()} := rfl
theorem duties_send (c : Dev nD) {i : ℕ} (h : i < 8) : (Rd X W).duties (sendCell c i) 0 = {()} := by
  simp only [Rd, role_send h]; rfl
theorem duties_recv (c : Dev nD) {i : ℕ} (h : i < 8) : (Rd X W).duties (recvCell c i) 0 = {()} := by
  simp only [Rd, role_recv h]; rfl
theorem duties_later (g : GSem nD τ sig) (r : ℕ) (hr : 1 ≤ r) : (Rd X W).duties g r = ∅ :=
  if_neg fun h => absurd h.1 (Nat.ne_of_gt hr)

theorem amount_bar (c : Dev nD) : (Rd X W).amount (barCell c) 0 () = 1 := rfl
theorem amount_send (c : Dev nD) {i : ℕ} (h : i < 8) : (Rd X W).amount (sendCell c i) 0 () = NN := by
  simp only [Rd, role_send h]
theorem amount_recv (c : Dev nD) {i : ℕ} (h : i < 8) : (Rd X W).amount (recvCell c i) 0 () = NN := by
  simp only [Rd, role_recv h]

theorem payload_bar (c : Dev nD) : (Rd X W).payload (barCell c) 0 () = pay X W c .bar := rfl
theorem payload_send (c : Dev nD) {i : ℕ} (h : i < 8) : (Rd X W).payload (sendCell c i) 0 () = pay X W c (.send i) := by
  simp only [Rd, role_send h]
theorem payload_recv (c : Dev nD) {i : ℕ} (h : i < 8) : (Rd X W).payload (recvCell c i) 0 () = pay X W c (.recv i) := by
  simp only [Rd, role_recv h]

theorem expect_bar (c : Dev nD) : 0 + 1 = (Rd X W).expect (barCell c) 0 := by
  unfold Rounds.Schedule.expect; rw [duties_bar]; simp [amount_bar]
theorem expect_send (c : Dev nD) {i : ℕ} (h : i < 8) : 0 + NN = (Rd X W).expect (sendCell c i) 0 := by
  unfold Rounds.Schedule.expect; rw [duties_send X W c h]; simp [amount_send X W c h]
theorem expect_recv (c : Dev nD) {i : ℕ} (h : i < 8) : 0 + NN = (Rd X W).expect (recvCell c i) 0 := by
  unfold Rounds.Schedule.expect; rw [duties_recv X W c h]; simp [amount_recv X W c h]

theorem rest_bar (c : Dev nD) : bigSep ((Rd X W).duties (barCell c) 0 \ ∅) (fun d => (Rd X W).payload (barCell c) 0 d) = pay X W c .bar := by
  rw [Finset.sdiff_empty, duties_bar, bigSep_singleton, payload_bar]
theorem rest_send (c : Dev nD) {i : ℕ} (h : i < 8) :
    bigSep ((Rd X W).duties (sendCell c i) 0 \ ∅) (fun d => (Rd X W).payload (sendCell c i) 0 d) = pay X W c (.send i) := by
  rw [Finset.sdiff_empty, duties_send X W c h, bigSep_singleton, payload_send X W c h]
theorem rest_recv (c : Dev nD) {i : ℕ} (h : i < 8) :
    bigSep ((Rd X W).duties (recvCell c i) 0 \ ∅) (fun d => (Rd X W).payload (recvCell c i) 0 d) = pay X W c (.recv i) := by
  rw [Finset.sdiff_empty, duties_recv X W c h, bigSep_singleton, payload_recv X W c h]

end Values

/-! ## What a device owes, and the levels -/

/-- What device `c` owes from copy `k` on: each copy's units at the peer's receive cell. -/
def due (c : Dev nD) (k : ℕ) : CellTallies nD τ sig Unit := ∑ i ∈ Finset.Ico k 8, tallyAt (recvCell (peer c) i) () NN
/-- What it owes at launch: the copies, and the peer's barrier unit. -/
def due₀ (c : Dev nD) : CellTallies nD τ sig Unit := due c 0 + tallyAt (barCell (peer c)) () 1

theorem due_peel (c : Dev nD) {k : ℕ} (h : k < 8) : due c k = due c (k + 1) + tallyAt (recvCell (peer c) k) () NN := by
  unfold due
  rw [Finset.sum_eq_sum_Ico_succ_bot h, add_comm]
theorem due_last (c : Dev nD) : due c 8 = 0 := by simp [due]

/-- Where what is owed from copy `k` on is positive: at receive cells. -/
theorem due_pos {c : Dev nD} {k : ℕ} {g : GSem nD τ sig} {u : Unit} (h : 0 < due c k g u) : ∃ i < 8, g = recvCell (peer c) i := by
  unfold due at h
  rw [Finset.sum_apply, Finsupp.finsetSum_apply] at h
  obtain ⟨i, hi, hne⟩ := Finset.exists_ne_zero_of_sum_ne_zero (Nat.pos_iff_ne_zero.mp h)
  rw [tallyAt_apply] at hne
  by_cases e : g = recvCell (peer c) i ∧ u = ()
  · exact ⟨i, (Finset.mem_Ico.mp hi).2, e.1⟩
  · rw [if_neg e] at hne; exact absurd rfl hne
theorem due₀_pos {c : Dev nD} {g : GSem nD τ sig} {u : Unit} (h : 0 < due₀ c g u) :
    g.1.2 = .tc ∧ (g.2 = .reg barS ∨ ∃ i < 8, g.2 = .dma (recvSem i)) := by
  unfold due₀ at h
  rw [Pi.add_apply, Finsupp.add_apply] at h
  by_cases h0 : 0 < due c 0 g u
  · obtain ⟨i, hi, rfl⟩ := due_pos h0
    exact ⟨rfl, .inr ⟨i, hi, rfl⟩⟩
  · rw [tallyAt_apply] at h
    by_cases e : g = barCell (peer c) ∧ u = ()
    · rw [e.1]; exact ⟨rfl, .inl rfl⟩
    · rw [if_neg e] at h; omega

/-- Every TensorCore cell has one level: 2 for receive cells, 1 for the barrier, 0 otherwise. -/
def L (g : GSem nD τ sig) : Finset Unit := if g.1.2 = .tc then {()} else ∅
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-- Owing copies, a device may wait on any cell that is not a receive cell. -/
theorem mayWait_due (c : Dev nD) (k : ℕ) (sm : SemLoc sig) (h : lv ((c : Thread nD τ), sm) () ≤ 1) :
    (levAts L lv : sProp 𝕄) ⊢ MayWait (c : Thread nD τ) sm () (due c k) :=
  MayOwe.of_cut (L := L) (lev := lv) 1 (fun p hp => by rw [Finset.mem_singleton.mp hp, L_tc]; exact Finset.mem_singleton_self _)
    (fun g u hg => by obtain ⟨i, -, rfl⟩ := due_pos hg; rw [L_tc]; exact Finset.mem_singleton_self _)
    (fun p hp => by rw [Finset.mem_singleton.mp hp]; exact h)
    (fun g u hg => by obtain ⟨i, hi, rfl⟩ := due_pos hg; simp only [lv, role_recv hi]; omega)

/-- Owing all it is dealt, a device may wait on a cell of level 0. -/
theorem mayWait_due₀ (c : Dev nD) (sm : SemLoc sig) (h : lv ((c : Thread nD τ), sm) () ≤ 0) :
    (levAts L lv : sProp 𝕄) ⊢ MayWait (c : Thread nD τ) sm () (due₀ c) :=
  MayOwe.of_cut (L := L) (lev := lv) 0 (fun p hp => by rw [Finset.mem_singleton.mp hp, L_tc]; exact Finset.mem_singleton_self _)
    (fun g u hg => by unfold L; rw [if_pos (due₀_pos hg).1]; cases u; exact Finset.mem_singleton_self _)
    (fun p hp => by rw [Finset.mem_singleton.mp hp]; exact h)
    (fun g u hg => by
      rcases (due₀_pos hg).2 with e | ⟨i, hi, e⟩
      · simp only [lv, e, role_bar]; omega
      · simp only [lv, e, role_recv hi]; omega)

end Cert.OProj

end
-- ==== Proof.Steps.lean ====
/-
  What one device holds between its steps, and one theorem per kind of step: starting the copy of a piece, multiplying a
  piece and sending the product, multiplying a piece into the result, adding the peer's product, and the last waits.
  Each is stated once, for a symbolic piece number.
-/
module

public import proofs.«01_k».proof.Proof.Protocol

@[expose] public section

noncomputable section

namespace Cert.OProj

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → main_v1.ty.Contents (Elt F)) (W : Dev nD → main_arg1.ty.Contents (Elt F))
variable (κ : GSem nD τ sig → ℕ) (c : Dev nD)

/-- One member of a separating product. -/
theorem big_member {M : Type} [URA M] {I : Type} {s : Finset I} {i : I} {Φ : I → sProp M} (h : i ∈ s) : (bigSep s Φ : sProp M) ⊢ Φ i := by
  classical exact bigSep_elim h
/-- A separating product with one more member. -/
theorem big_cons {M : Type} [URA M] {I : Type} [DecidableEq I] {s : Finset I} {i : I} {Φ : I → sProp M} (h : i ∉ s) :
    bigSep (insert i s) Φ = iprop(Φ i ∗ bigSep s Φ) := bigSep_insert h

/-! ## What is held between steps -/

/-- The invariants of every cell of the exchange, and the levels. -/
def Ctx : sProp 𝕄 :=
  iprop(levAts L lv
    ∗ (bigSep Finset.univ fun d : Dev nD => cellInv ER (Rd X W) (κ (barCell d)) (barCell d))
    ∗ (bigSep Finset.univ fun d : Dev nD => bigSep (Finset.range 8) fun i => cellInv ER (Rd X W) (κ (sendCell d i)) (sendCell d i))
    ∗ (bigSep Finset.univ fun d : Dev nD => bigSep (Finset.range 8) fun i => cellInv ER (Rd X W) (κ (recvCell d i)) (recvCell d i)))

instance Ctx_persistent : BI.Persistent (Ctx X W κ : sProp 𝕄) := by unfold Ctx; infer_instance

theorem ctx_lev : Ctx X W κ ⊢ (levAts L lv : sProp 𝕄) := by unfold Ctx; iintro ⟨H, -⟩; iexact H
theorem ctx_bar (d : Dev nD) : Ctx X W κ ⊢ (cellInv ER (Rd X W) (κ (barCell d)) (barCell d) : sProp 𝕄) := by
  unfold Ctx; iintro ⟨-, H, -⟩
  iapply (big_member (M := 𝕄) (Φ := fun d : Dev nD => cellInv ER (Rd X W) (κ (barCell d)) (barCell d)) (Finset.mem_univ d)) $$ H
theorem ctx_send (d : Dev nD) {i : ℕ} (h : i < 8) : Ctx X W κ ⊢ (cellInv ER (Rd X W) (κ (sendCell d i)) (sendCell d i) : sProp 𝕄) := by
  unfold Ctx; iintro ⟨-, -, H, -⟩
  ihave H := (big_member (M := 𝕄) (Φ := fun d : Dev nD => bigSep (Finset.range 8) fun i => cellInv ER (Rd X W) (κ (sendCell d i)) (sendCell d i)) (Finset.mem_univ d)) $$ H
  iapply (big_member (M := 𝕄) (Φ := fun i => cellInv ER (Rd X W) (κ (sendCell d i)) (sendCell d i)) (Finset.mem_range.mpr h)) $$ H
theorem ctx_recv (d : Dev nD) {i : ℕ} (h : i < 8) : Ctx X W κ ⊢ (cellInv ER (Rd X W) (κ (recvCell d i)) (recvCell d i) : sProp 𝕄) := by
  unfold Ctx; iintro ⟨-, -, -, H⟩
  ihave H := (big_member (M := 𝕄) (Φ := fun d : Dev nD => bigSep (Finset.range 8) fun i => cellInv ER (Rd X W) (κ (recvCell d i)) (recvCell d i)) (Finset.mem_univ d)) $$ H
  iapply (big_member (M := 𝕄) (Φ := fun i => cellInv ER (Rd X W) (κ (recvCell d i)) (recvCell d i)) (Finset.mem_range.mpr h)) $$ H

/-- What device `c` owes, whatever waits it has made. -/
def owesE (F : FTy → Type) (c : Dev nD) (O : CellTallies nD τ sig Unit) : sProp (MT nD τ sig Unit (Elt F) ℕ UU ℕ) :=
  iprop(∃ Ws, owes (c : Thread nD τ) O Ws)

/-- The read share of the activations that slot `s`'s copies borrow. -/
def xT (s : ℕ) : sProp 𝕄 := xM.view.loc (c : Thread nD τ) ↦{Transfers.shareTokN fullShare (s % 4)} X c

/-- Slot `k % 4` free: at any contents, its semaphore at zero, its read share home. -/
def Free (k : ℕ) : sProp 𝕄 :=
  iprop(anyV F c (inM.access (slR k)) ∗ semVal ((c : Thread nD τ), .dma (slotSem k)) 0 ∗ xT X c k)

/-- The units a copy into a slot counts. -/
def NS : ℕ := (slM 0).view.dmaCredit
theorem NS_pos : 0 < NS := View.dmaCredit_pos _ (by decide)

/-- Piece `k` on its way into slot `k % 4`. -/
def Fl (k : ℕ) : sProp 𝕄 :=
  iprop(Transfers.Flight (EC (F := F)) (c : Thread nD τ) (.dma (slotSem k)) () NS
      iprop(ownV c (inM.access (slR k)) (rows X c k) ∗ (xM.view.loc (c : Thread nD τ) ↦[(xM.access (srcR c k)).set]{Transfers.shareTokN fullShare (k % 4)} X c))
    ∗ (xM.view.loc (c : Thread nD τ) ↦[Finset.univ \ (xM.access (srcR c k)).set]{Transfers.shareTokN fullShare (k % 4)} X c))

/-- Slot `k % 4` when piece `k` is the next it serves; free once there is no piece left. -/
def Slot (k : ℕ) : sProp 𝕄 := if k < 16 then Fl X c k else Free X c k

/-- Free slot number `r`. -/
def FreeAt (r : ℕ) (h : ∀ a, (![r, 0, 0] : Fin 3 → ℕ) a + S1x128x1024.size a ≤ S4x128x1024.size a) (h' : ∀ a, (![r] : Fin 1 → ℕ) a + S1.size a ≤ S4.size a) : sProp 𝕄 :=
  iprop(anyV F c (inM.access (Rect.unit (s := S4x128x1024) ![r, 0, 0] S1x128x1024.size h))
    ∗ semVal ((c : Thread nD τ), .dma ((cc0_scratch4.slice (Rect.unit (s := S4) ![r] S1.size h')).squeeze S_ squeezes_S1_S_).sem) 0
    ∗ xM.view.loc (c : Thread nD τ) ↦{Transfers.shareTokN fullShare r} X c)

theorem Free_mod (k : ℕ) : Free X c (k + 4) = Free X c k := by
  have e : ∀ r r' h1 h2 h1' h2', r = r' → FreeAt X c r h1 h2 = FreeAt X c r' h1' h2' := by
    intro r r' _ _ _ _ h; subst h; rfl
  exact e ((k + 4) % 4) (k % 4) (slInb (k + 4)) (semInb4 (k + 4)) (slInb k) (semInb4 k) (by omega)

theorem free_next (k : ℕ) : Free X c k ⊢ (Free X c (k + 4) : sProp 𝕄) := Entails.of_eq (Free_mod X c k).symm

theorem slot_lt {k : ℕ} (h : k < 16) : Slot X c k = Fl X c k := if_pos h
theorem slot_ge {k : ℕ} (h : 12 ≤ k) : Slot X c (k + 4) = Free X c k := by
  unfold Slot; rw [if_neg (by omega), Free_mod]

/-- The four slots from piece `k` on. -/
def Slots (k : ℕ) : sProp 𝕄 := iprop(Slot X c k ∗ Slot X c (k + 1) ∗ Slot X c (k + 2) ∗ Slot X c (k + 3))

/-- The whole of the weights' memory, as a rectangle. -/
abbrev wR : Rect S1024x2048 := Rect.unit (s := S1024x2048) ![0, 0] S1024x2048.size inb_S1024x2048_S1024x2048_0_0

/-- The weights, in the core's memory. -/
def WB : sProp 𝕄 := ownV c (wbM.access wR) (W c)

/-- What copy `i` takes: its chunk of the send buffer, the peer's chunk of its receive buffer, and the two duties. -/
def SendPre (i : ℕ) : sProp 𝕄 :=
  iprop(anyV F c (sendM.access (chR i)) ∗ anyV F (peer c) (recvM.access (chR i))
    ∗ dutyTok ER (sendCell c i) 0 () ∗ reached ER (sendCell c i) 0
    ∗ dutyTok ER (recvCell (peer c) i) 0 () ∗ reached ER (recvCell (peer c) i) 0)
/-- What is left of it: the credit to wait for its leaving. -/
def SendPost (i : ℕ) : sProp 𝕄 := cred (tallyAt (sendCell c i) () NN)

/-- Chunk `i` of the result before the device's own product is in it, -/
def OutPre (i : ℕ) : sProp 𝕄 := anyV F c (outM.access (chR i))
/-- and after. -/
def OutMid (i : ℕ) : sProp 𝕄 := ownV c (outM.access (chR i)) (prod X W c (8 + i))

/-- What the wait for the peer's copy `i` takes. -/
def FoldPre (i : ℕ) : sProp 𝕄 := iprop(cred (tallyAt (recvCell c i) () NN) ∗ atPos ER (recvCell c i) 0 ∅ 0 ∗ OutMid X W c i)
/-- What adding it leaves. -/
def FoldPost (i : ℕ) : sProp 𝕄 :=
  iprop(semVal (recvCell c i) 0 ∗ anyV F c (recvM.access (chR i)) ∗ ownV c (outM.access (chR i)) (outV X W c i))

/-- What the wait for copy `i`'s leaving takes. -/
def DrainPre (i : ℕ) : sProp 𝕄 := iprop(SendPost c i ∗ atPos ER (sendCell c i) 0 ∅ 0)
/-- What it leaves. -/
def DrainPost (i : ℕ) : sProp 𝕄 := iprop(semVal (sendCell c i) 0 ∗ anyV F c (sendM.access (chR i)))

/-- Eight things of which the first `k` are done. -/
def Upto (A B : ℕ → sProp 𝕄) (k : ℕ) : sProp 𝕄 := iprop(bigSep (Finset.range k) B ∗ bigSep (Finset.Ico k 8) A)

/-- The next of eight things, taken out. -/
theorem upto_take (A B : ℕ → sProp 𝕄) {k : ℕ} (h : k < 8) :
    Upto A B k ⊢ iprop(A k ∗ (B k -∗ Upto A B (k + 1))) := by
  unfold Upto
  rw [show Finset.Ico k 8 = insert k (Finset.Ico (k + 1) 8) by ext x; simp only [Finset.mem_Ico, Finset.mem_insert]; omega,
    big_cons (by simp), Finset.range_add_one, big_cons (by simp)]
  iintro ⟨HB, HA, HR⟩
  isplitl [HA]; · iexact HA
  iintro H
  isplitl [HB H]
  · isplitl [H]; · iexact H
    iexact HB
  iexact HR

theorem upto_zero (A B : ℕ → sProp 𝕄) : bigSep (Finset.range 8) A ⊢ Upto A B 0 := by
  unfold Upto
  rw [Finset.range_zero, bigSep_empty, Finset.range_eq_Ico]
  iintro H
  isplitr; · iempintro
  iexact H
theorem upto_eight (A B : ℕ → sProp 𝕄) : Upto A B 8 ⊢ bigSep (Finset.range 8) B := by
  unfold Upto
  rw [Finset.Ico_self, bigSep_empty]
  iintro ⟨H, -⟩; iexact H

/-! ## The steps -/

variable {α : Type} {Q : α → sProp (MT nD τ sig Unit (Elt F) ℕ UU ℕ)}

/-- Running `p` on device `c` ends in `Q`. -/
abbrev Runs (c : Dev nD) (Q : α → sProp 𝕄) (p : Prog (TpuEff nD τ sig (Elt F) Λ₀ .tc) α) : sProp 𝕄 :=
  wp frame (wpE (defs₀ (F := F)) 𝒱₀ (c : Thread nD τ) none) Set.univ p Q

/-- Starting the copy of piece `k` into its free slot. -/
theorem wp_start (k : ℕ) {off : Fin 3 → ℕ} {inb : ∀ a, off a + S1x128x1024.size a ≤ S2x1024x1024.size a} (ho : off = srcOff c k)
    {K : PUnit → Prog (TpuEff nD τ sig (Elt F) Λ₀ .tc) α}
    {hs : ((xM.slice (Rect.unit (s := S2x1024x1024) off S1x128x1024.size inb) (fun _ => rfl)).squeeze S128x1024 squeezes_S1x128x1024_S128x1024).view.WordExact}
    {hd : (slM k).view.WordExact} {he : DmaTarget.Typed (nD := nD) (τ := τ) Space.hbm (.dma (slotSem k)) (.here (p := Proc.tc) (slM k))} :
    Free X c k ⊢ iprop((Fl X c k -∗ Runs c Q (K ⟨⟩))
      -∗ Runs c Q (.op (.enqueueDma ((xM.slice (Rect.unit (s := S2x1024x1024) off S1x128x1024.size inb) (fun _ => rfl)).squeeze S128x1024 squeezes_S1x128x1024_S128x1024)
          (.here (slM k)) (.dma (slotSem k)) hs hd he) K)) := by
  subst ho
  unfold Free xT Fl anyV
  iintro ⟨⟨%fd, Hd⟩, Hv, Hx⟩ Hk
  ihave Hx := (pointsTo_split_subset (Finset.subset_univ (xM.access (srcR c k)).set)).1 $$ Hx
  icases Hx with ⟨Hx, Hr⟩
  iapply (Transfers.wp_dmaLocal (EC (F := F)) 𝒱₀ (c : Thread nD τ) none
    (src := (xM.slice (srcR c k) (fun _ => rfl)).squeeze S128x1024 squeezes_S1x128x1024_S128x1024) (dst := slM k)
    (fs := X c) (fd := fd) (Sd := (inM.access (slR k)).set) () NS rfl NS_pos (by rw [View.set_reshape])) $$ [Hx Hd Hv] [Hr Hk]
  · isplitl [Hx]; · rw [View.set_reshape]; iexact Hx
    isplitl [Hd]; · iexact Hd
    iexact Hv
  iintro HF
  iapply Hk
  isplitl [HF]; swap; (· iexact Hr)
  iapply (Transfers.Flight_mono (EC (F := F)) (c : Thread nD τ) ?_) $$ HF
  rw [View.set_reshape]
  iintro ⟨Hd, Hx⟩
  isplitl [Hd]; swap; (· iexact Hx)
  unfold ownV rows
  iexists _
  isplitr; swap; (· iexact Hd)
  ipureintro
  exact read_write_squeezed _ _ _ _ _ _

/-- A slot's semaphore is at level 0. -/
theorem lv_slot (d : Thread nD τ) (k : ℕ) : lv (d, .dma (slotSem k)) () = 0 := by
  have e : ∀ r (h' : ∀ a, (![r] : Fin 1 → ℕ) a + S1.size a ≤ S4.size a),
      role (.dma ((cc0_scratch4.slice (Rect.unit (s := S4) ![r] S1.size h')).squeeze S_ squeezes_S1_S_).sem) = .other := by
    intro r h'
    have hr : r < 4 := by have := h' 0; simp only [Matrix.cons_val_zero] at this; change r + 1 ≤ 4 at this; omega
    interval_cases r
    exacts [role_slot (s := 0) (by omega), role_slot (s := 1) (by omega), role_slot (s := 2) (by omega), role_slot (s := 3) (by omega)]
  unfold lv
  simp only [show role (.dma (slotSem k)) = .other from e (k % 4) (semInb4 k)]

/-- Waiting for piece `k`. -/
theorem wp_await (k j : ℕ) {s' : Shape} {e' : EltTy} {sp' : Space} {srcw : Memref sig .tc sp' s' e'} {hs : srcw.view.WordExact}
    {hd : (slM k).view.WordExact} {K : PUnit → Prog (TpuEff nD τ sig (Elt F) Λ₀ .tc) α} :
    iprop(Fl X c k ∗ owesE F c (due c j) ∗ levAts L lv)
      ⊢ iprop((iprop(ownV c (inM.access (slR k)) (rows X c k) ∗ (ownV c (inM.access (slR k)) (rows X c k) -∗ Free X c k) ∗ owesE F c (due c j)) -∗ Runs c Q (K ⟨⟩))
        -∗ Runs c Q (.op (.waitDma2 (slotSem k) srcw (slM k) hs hd) K)) := by
  unfold Fl owesE
  iintro ⟨⟨HF, Hr⟩, ⟨%Ws, HO⟩, HL⟩ Hk
  iapply (Transfers.wp_waitLocalO (EC (F := F)) 𝒱₀ (c : Thread nD τ) none (dstw := slM k) () (N := NS) rfl (O := due c j) (W := Ws)) $$ [HF HO HL] [Hr Hk]
  · isplitl [HF]; · iexact HF
    isplitl [HO]; · iexact HO
    iapply (mayWait_due c j (.dma (slotSem k)) (by rw [lv_slot]; exact Nat.zero_le _)) $$ HL
  iintro ⟨⟨Hd, Hx⟩, Hv, HO⟩
  iapply Hk
  isplitl [Hd]; · iexact Hd
  isplitl [Hx Hr Hv]; swap
  · iexists _; iexact HO
  iintro Hd
  unfold Free xT
  ihave Hx := (show iprop((xM.view.loc (c : Thread nD τ) ↦[(xM.access (srcR c k)).set]{Transfers.shareTokN fullShare (k % 4)} X c)
      ∗ (xM.view.loc (c : Thread nD τ) ↦[Finset.univ \ (xM.access (srcR c k)).set]{Transfers.shareTokN fullShare (k % 4)} X c))
      ⊢ (xM.view.loc (c : Thread nD τ) ↦{Transfers.shareTokN fullShare (k % 4)} X c : sProp 𝕄)
      from (pointsTo_split_subset (Finset.subset_univ (xM.access (srcR c k)).set)).2) $$ [Hx Hr]
  · isplitl [Hx]; · iexact Hx
    iexact Hr
  isplitl [Hd]; · iapply (ownV_any c _ _) $$ Hd
  isplitl [Hv]; · iexact Hv
  iexact Hx

/-- Multiplying piece `k` into chunk `i` of a buffer. -/
theorem wp_mul (M : Memref sig .tc .vmem S2x512x2048 .f32) (k i : ℕ) (pf : Vec F S1x128x1024 .f32 → Vec F S1024x2048 .f32 → FVec F S1x128x2048 .f32)
    (hp : ∀ v w, pf v w = k0_pay1 v w)
    {K : PUnit → Prog (TpuEff nD τ sig (Elt F) Λ₀ .tc) α}
    {hl1 : inM.view.LoadsAt (slR k).toLoadRect}
    {hl2 : wbM.view.LoadsAt wR.toLoadRect}
    {hl3 : M.view.LoadsAt (chR i).toLoadRect} {hx : (M.access (chR i)).Stores Finset.univ}
    {hm : (Finset.univ : Finset (chR i).shape.Idx) = Finset.univ ∨ ∀ a, (chR i).stride a = 1} :
    iprop(ownV c (inM.access (slR k)) (rows X c k) ∗ WB W c ∗ anyV F c (M.access (chR i)))
      ⊢ iprop((iprop(ownV c (inM.access (slR k)) (rows X c k) ∗ WB W c ∗ ownV c (M.access (chR i)) (prod X W c k)) -∗ Runs c Q (K ⟨⟩))
        -∗ Runs c Q (.op (.load inM (slR k).toLoadRect hl1) fun v =>
            .op (.load wbM wR.toLoadRect hl2) fun w =>
            .op (.load M (chR i).toLoadRect hl3) fun _ =>
            .op (.store M (chR i) (pf v w) Finset.univ hx hm) K)) := by
  unfold WB
  iintro ⟨Hs, Hw, Ho⟩ Hk
  iapply (wp_load_own c (rows X c k)) $$ Hs
  iintro Hs
  iapply (wp_load_own c (W c)) $$ Hw
  iintro Hw
  iapply (wp_load_any c) $$ Ho
  iintro %Z Ho
  rw [hp]
  iapply (wp_store_own c) $$ Ho
  iintro Ho
  iapply Hk
  isplitl [Hs]; · iexact Hs
  isplitl [Hw]; · iexact Hw
  iexact Ho

/-- Sending chunk `k` of the send buffer to the peer. -/
theorem wp_copy {k : ℕ} (hk : k < 8) {n : Dev nD} (hn : n = peer c)
    {K : PUnit → Prog (TpuEff nD τ sig (Elt F) Λ₀ .tc) α} {hs : (chM sendM k).view.WordExact} {hd : (chM recvM k).view.WordExact}
    {hsc : (chM recvM k).view.ref.isScScratch = false}
    {he : DmaTarget.Typed (nD := nD) (τ := τ) Space.vmem (.dma (recvSem k)) (.remote (p := Proc.tc) (Dev.tc n) (chM recvM k) (.dma (sendSem k)) hsc)} :
    iprop(Ctx X W κ ∗ ownV c (sendM.access (chR k)) (prod X W c k) ∗ anyV F (peer c) (recvM.access (chR k))
      ∗ dutyTok ER (sendCell c k) 0 () ∗ reached ER (sendCell c k) 0
      ∗ dutyTok ER (recvCell (peer c) k) 0 () ∗ reached ER (recvCell (peer c) k) 0 ∗ owesE F c (due c k))
      ⊢ iprop((iprop(SendPost c k ∗ owesE F c (due c (k + 1))) -∗ Runs c Q (K ⟨⟩))
        -∗ Runs c Q (.op (.enqueueDma (chM sendM k) (.remote (Dev.tc n) (chM recvM k) (.dma (sendSem k)) hsc) (.dma (recvSem k)) hs hd he) K)) := by
  subst hn
  unfold owesE SendPost
  iintro ⟨#HC, Hs, Hd, Ht1, Hr1, Ht2, Hr2, ⟨%Ws, HO⟩⟩ Hk
  unfold ownV anyV
  icases Hs with ⟨%fs, %hfs, Hs⟩
  icases Hd with ⟨%fd, Hd⟩
  have hp1 : ((chM sendM k).view.loc (c : Thread nD τ) ↦[(chM sendM k).view.set]{fullShare} fs) ⊢ ((Rd X W).payload (sendCell c k) 0 () : sProp 𝕄) := by
    rw [payload_send X W c hk, View.set_reshape]
    unfold pay ownV
    iintro H
    iexists fs
    isplitr; · ipureintro; exact hfs
    iexact H
  have hp2 : ((chM recvM k).view.loc ((peer c : Dev nD) : Thread nD τ) ↦[(chM recvM k).view.set]{fullShare}
      ((chM recvM k).view.write (Elt F) fd ((chM sendM k).view.read (Elt F) fs) Finset.univ)) ⊢ ((Rd X W).payload (recvCell (peer c) k) 0 () : sProp 𝕄) := by
    rw [payload_recv X W (peer c) hk, View.set_reshape]
    unfold pay ownV
    rw [peer_peer]
    iintro H
    iexists _
    isplitr; swap; (· iexact H)
    ipureintro
    rw [← hfs]
    exact read_write_squeezed _ _ _ _ _ _
  iapply (Rounds.wp_send_pointsTo (κ₁ := κ (sendCell c k)) (κ₂ := κ (recvCell (peer c) k)) 𝒱₀ ER (Rd X W) (c : Thread nD τ) none (c' := ((peer c : Dev nD) : Thread nD τ)) (src := chM sendM k) (dst := chM recvM k)
    (fs := fs) (fd := fd)
    (r₁ := 0) (r₂ := 0) (d₁ := ()) (d₂ := ()) (by rw [duties_send X W c hk]; exact Finset.mem_singleton_self _)
    (by rw [duties_recv X W (peer c) hk]; exact Finset.mem_singleton_self _) () () NN rfl
    (amount_send X W c hk) (amount_recv X W (peer c) hk) (due c (k + 1)) (due_peel c hk) (q := fullShare) (W := Ws) hp1 hp2) $$ [Hs Hd Ht1 Hr1 Ht2 Hr2 HO] [Hk]
  · isplitr; · iapply (ctx_send X W κ c hk) $$ HC
    isplitr; · iapply (ctx_recv X W κ (peer c) hk) $$ HC
    isplitl [Hs]; · rw [View.set_reshape]; iexact Hs
    isplitl [Hd]; · rw [View.set_reshape]; iexact Hd
    isplitl [HO]; · iexact HO
    isplitl [Ht1]; · iexact Ht1
    isplitl [Hr1]; · iexact Hr1
    isplitl [Ht2]; · iexact Ht2
    iexact Hr2
  · iintro ⟨Hc, HO⟩
    iapply Hk
    isplitl [Hc]; · iexact Hc
    iexists _; iexact HO

end Cert.OProj

end
-- ==== Proof.Jobs.lean ====
/-
  The kernel's repeated steps put together, each one theorem from what is held before it to what is held after: a piece
  multiplied and sent, a piece multiplied into the result, the peer's product added, and a copy's leaving waited for.
-/
module

public import proofs.«01_k».proof.Proof.Steps

@[expose] public section

noncomputable section

namespace Cert.OProj

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → main_v1.ty.Contents (Elt F)) (W : Dev nD → main_arg1.ty.Contents (Elt F))
variable (κ : GSem nD τ sig → ℕ) (c : Dev nD)

/-- Held before piece `k` of the peer's half is multiplied and sent. -/
def Sending (k : ℕ) : sProp 𝕄 :=
  iprop(Ctx X W κ ∗ Slots X c k ∗ WB W c ∗ Upto (SendPre (F := F) c) (SendPost c) k ∗ owesE F c (due c k))
/-- Held before piece `j` of the device's own half is multiplied. -/
def Owning (j : ℕ) : sProp 𝕄 :=
  iprop(Ctx X W κ ∗ Slots X c (8 + j) ∗ WB W c ∗ Upto (OutPre (F := F) c) (OutMid X W c) j ∗ owesE F c (due c 8))
/-- Held before chunk `k` of the peer's products is added. -/
def Folding (k : ℕ) : sProp 𝕄 :=
  iprop(Ctx X W κ ∗ Upto (FoldPre X W c) (FoldPost X W c) k ∗ owesE F c (due c 8))
/-- Held before copy `k`'s leaving is waited for. -/
def Draining (k : ℕ) : sProp 𝕄 :=
  iprop(Ctx X W κ ∗ Upto (DrainPre (F := F) c) (DrainPost c) k ∗ owesE F c (due c 8))

/-- The first slot's turn is over: the four slots from the next piece on. -/
theorem slots_next (k : ℕ) :
    iprop(Slot X c (k + 1) ∗ Slot X c (k + 2) ∗ Slot X c (k + 3) ∗ Slot X c (k + 4)) ⊢ (Slots X c (k + 1) : sProp 𝕄) := .rfl

variable {α : Type} {Q : α → sProp (MT nD τ sig Unit (Elt F) ℕ UU ℕ)}

set_option maxRecDepth 65536 in
/-- Piece `k` of the peer's half: waited for, multiplied, its slot given to piece `k + 4`, the product sent. -/
theorem wp_job_send {k : ℕ} (hk : k < 8) (pf : Vec F S1x128x1024 .f32 → Vec F S1024x2048 .f32 → FVec F S1x128x2048 .f32)
    (hp : ∀ v w, pf v w = k0_pay1 v w) {n : Dev nD} (hn : n = peer c)
    {off : Fin 3 → ℕ} (ho : off = srcOff c (k + 4)) {inb : ∀ a, off a + S1x128x1024.size a ≤ S2x1024x1024.size a}
    {s' : Shape} {e' : EltTy} {sp' : Space} {srcw : Memref sig .tc sp' s' e'} {hs0 : srcw.view.WordExact} {hd0 : (slM k).view.WordExact}
    {hl1 : inM.view.LoadsAt (slR k).toLoadRect} {hl2 : wbM.view.LoadsAt wR.toLoadRect}
    {hl3 : sendM.view.LoadsAt (chR k).toLoadRect} {hx : (sendM.access (chR k)).Stores Finset.univ}
    {hm : (Finset.univ : Finset (chR k).shape.Idx) = Finset.univ ∨ ∀ a, (chR k).stride a = 1}
    {hs1 : ((xM.slice (Rect.unit (s := S2x1024x1024) off S1x128x1024.size inb) (fun _ => rfl)).squeeze S128x1024 squeezes_S1x128x1024_S128x1024).view.WordExact}
    {hd1 : (slM (k + 4)).view.WordExact} {he1 : DmaTarget.Typed (nD := nD) (τ := τ) Space.hbm (.dma (slotSem (k + 4))) (.here (p := Proc.tc) (slM (k + 4)))}
    {hs2 : (chM sendM k).view.WordExact} {hd2 : (chM recvM k).view.WordExact} {hsc : (chM recvM k).view.ref.isScScratch = false}
    {he2 : DmaTarget.Typed (nD := nD) (τ := τ) Space.vmem (.dma (recvSem k)) (.remote (p := Proc.tc) (Dev.tc n) (chM recvM k) (.dma (sendSem k)) hsc)}
    {K : PUnit → Prog (TpuEff nD τ sig (Elt F) Λ₀ .tc) α} :
    Sending X W κ c k ⊢ iprop((Sending X W κ c (k + 1) -∗ Runs c Q (K ⟨⟩))
      -∗ Runs c Q (.op (.waitDma2 (slotSem k) srcw (slM k) hs0 hd0) fun _ =>
          .op (.load inM (slR k).toLoadRect hl1) fun v => .op (.load wbM wR.toLoadRect hl2) fun w =>
          .op (.load sendM (chR k).toLoadRect hl3) fun _ => .op (.store sendM (chR k) (pf v w) Finset.univ hx hm) fun _ =>
          .op (.enqueueDma ((xM.slice (Rect.unit (s := S2x1024x1024) off S1x128x1024.size inb) (fun _ => rfl)).squeeze S128x1024 squeezes_S1x128x1024_S128x1024)
            (.here (slM (k + 4))) (.dma (slotSem (k + 4))) hs1 hd1 he1) fun _ =>
          .op (.enqueueDma (chM sendM k) (.remote (Dev.tc n) (chM recvM k) (.dma (sendSem k)) hsc) (.dma (recvSem k)) hs2 hd2 he2) K)) := by
  unfold Sending Slots
  rw [slot_lt X c (show k < 16 by omega)]
  iintro ⟨#HC, ⟨Hk, H1, H2, H3⟩, Hw, HS, HO⟩ HK
  ihave HS := (upto_take _ _ hk) $$ HS
  icases HS with ⟨Hp, HS⟩
  unfold SendPre
  icases Hp with ⟨Hs, Hd, Ht1, Hr1, Ht2, Hr2⟩
  iapply (wp_await X c k k) $$ [Hk HO]
  · isplitl [Hk]; · iexact Hk
    isplitl [HO]; · iexact HO
    iapply (ctx_lev X W κ) $$ HC
  iintro ⟨Hin, Hfree, HO⟩
  iapply (wp_mul X W c sendM k k pf hp) $$ [Hin Hw Hs]
  · isplitl [Hin]; · iexact Hin
    isplitl [Hw]; · iexact Hw
    iexact Hs
  iintro ⟨Hin, Hw, Hs⟩
  ihave Hfree := Hfree $$ Hin
  ihave Hfree := (free_next X c k) $$ Hfree
  iapply (wp_start X c (k + 4) ho) $$ Hfree
  iintro HF
  iapply (wp_copy X W κ c hk hn) $$ [Hs Hd Ht1 Hr1 Ht2 Hr2 HO]
  · isplitr; · iexact HC
    isplitl [Hs]; · iexact Hs
    isplitl [Hd]; · iexact Hd
    isplitl [Ht1]; · iexact Ht1
    isplitl [Hr1]; · iexact Hr1
    isplitl [Ht2]; · iexact Ht2
    isplitl [Hr2]; · iexact Hr2
    iexact HO
  iintro ⟨Hpost, HO⟩
  iapply HK
  isplitr; · iexact HC
  isplitl [H1 H2 H3 HF]
  · isplitl [H1]; · iexact H1
    isplitl [H2]; · iexact H2
    isplitl [H3]; · iexact H3
    rw [show k + 1 + 3 = k + 4 by omega, slot_lt X c (show k + 4 < 16 by omega)]
    iexact HF
  isplitl [Hw]; · iexact Hw
  isplitl [HS Hpost]; · iapply HS; iexact Hpost
  iexact HO

set_option maxRecDepth 65536 in
/-- Piece `j` of the device's own half while pieces remain: waited for, multiplied into the result, its slot given on. -/
theorem wp_job_own {j : ℕ} (hj : j < 4) (pf : Vec F S1x128x1024 .f32 → Vec F S1024x2048 .f32 → FVec F S1x128x2048 .f32)
    (hp : ∀ v w, pf v w = k0_pay1 v w)
    {off : Fin 3 → ℕ} (ho : off = srcOff c (8 + j + 4)) {inb : ∀ a, off a + S1x128x1024.size a ≤ S2x1024x1024.size a}
    {s' : Shape} {e' : EltTy} {sp' : Space} {srcw : Memref sig .tc sp' s' e'} {hs0 : srcw.view.WordExact} {hd0 : (slM (8 + j)).view.WordExact}
    {hl1 : inM.view.LoadsAt (slR (8 + j)).toLoadRect} {hl2 : wbM.view.LoadsAt wR.toLoadRect}
    {hl3 : outM.view.LoadsAt (chR j).toLoadRect} {hx : (outM.access (chR j)).Stores Finset.univ}
    {hm : (Finset.univ : Finset (chR j).shape.Idx) = Finset.univ ∨ ∀ a, (chR j).stride a = 1}
    {hs1 : ((xM.slice (Rect.unit (s := S2x1024x1024) off S1x128x1024.size inb) (fun _ => rfl)).squeeze S128x1024 squeezes_S1x128x1024_S128x1024).view.WordExact}
    {hd1 : (slM (8 + j + 4)).view.WordExact} {he1 : DmaTarget.Typed (nD := nD) (τ := τ) Space.hbm (.dma (slotSem (8 + j + 4))) (.here (p := Proc.tc) (slM (8 + j + 4)))}
    {K : PUnit → Prog (TpuEff nD τ sig (Elt F) Λ₀ .tc) α} :
    Owning X W κ c j ⊢ iprop((Owning X W κ c (j + 1) -∗ Runs c Q (K ⟨⟩))
      -∗ Runs c Q (.op (.waitDma2 (slotSem (8 + j)) srcw (slM (8 + j)) hs0 hd0) fun _ =>
          .op (.load inM (slR (8 + j)).toLoadRect hl1) fun v => .op (.load wbM wR.toLoadRect hl2) fun w =>
          .op (.load outM (chR j).toLoadRect hl3) fun _ => .op (.store outM (chR j) (pf v w) Finset.univ hx hm) fun _ =>
          .op (.enqueueDma ((xM.slice (Rect.unit (s := S2x1024x1024) off S1x128x1024.size inb) (fun _ => rfl)).squeeze S128x1024 squeezes_S1x128x1024_S128x1024)
            (.here (slM (8 + j + 4))) (.dma (slotSem (8 + j + 4))) hs1 hd1 he1) K)) := by
  unfold Owning Slots
  rw [slot_lt X c (show 8 + j < 16 by omega)]
  iintro ⟨#HC, ⟨Hk, H1, H2, H3⟩, Hw, HS, HO⟩ HK
  ihave HS := (upto_take _ _ (show j < 8 by omega)) $$ HS
  icases HS with ⟨Hp, HS⟩
  unfold OutPre
  iapply (wp_await X c (8 + j) 8) $$ [Hk HO]
  · isplitl [Hk]; · iexact Hk
    isplitl [HO]; · iexact HO
    iapply (ctx_lev X W κ) $$ HC
  iintro ⟨Hin, Hfree, HO⟩
  iapply (wp_mul X W c outM (8 + j) j pf hp) $$ [Hin Hw Hp]
  · isplitl [Hin]; · iexact Hin
    isplitl [Hw]; · iexact Hw
    iexact Hp
  iintro ⟨Hin, Hw, Hs⟩
  ihave Hfree := Hfree $$ Hin
  ihave Hfree := (free_next X c (8 + j)) $$ Hfree
  iapply (wp_start X c (8 + j + 4) ho) $$ Hfree
  iintro HF
  iapply HK
  isplitr; · iexact HC
  isplitl [H1 H2 H3 HF]
  · isplitl [H1]; · iexact H1
    isplitl [H2]; · iexact H2
    isplitl [H3]; · iexact H3
    rw [show 8 + (j + 1) + 3 = 8 + j + 4 by omega, slot_lt X c (show 8 + j + 4 < 16 by omega)]
    iexact HF
  isplitl [Hw]; · iexact Hw
  isplitl [HS Hs]; · iapply HS; unfold OutMid; iexact Hs
  iexact HO

set_option maxRecDepth 65536 in
/-- One of the last four pieces: waited for and multiplied into the result. -/
theorem wp_job_last {j : ℕ} (hj : 4 ≤ j) (hj' : j < 8) (pf : Vec F S1x128x1024 .f32 → Vec F S1024x2048 .f32 → FVec F S1x128x2048 .f32)
    (hp : ∀ v w, pf v w = k0_pay1 v w)
    {s' : Shape} {e' : EltTy} {sp' : Space} {srcw : Memref sig .tc sp' s' e'} {hs0 : srcw.view.WordExact} {hd0 : (slM (8 + j)).view.WordExact}
    {hl1 : inM.view.LoadsAt (slR (8 + j)).toLoadRect} {hl2 : wbM.view.LoadsAt wR.toLoadRect}
    {hl3 : outM.view.LoadsAt (chR j).toLoadRect} {hx : (outM.access (chR j)).Stores Finset.univ}
    {hm : (Finset.univ : Finset (chR j).shape.Idx) = Finset.univ ∨ ∀ a, (chR j).stride a = 1}
    {K : PUnit → Prog (TpuEff nD τ sig (Elt F) Λ₀ .tc) α} :
    Owning X W κ c j ⊢ iprop((Owning X W κ c (j + 1) -∗ Runs c Q (K ⟨⟩))
      -∗ Runs c Q (.op (.waitDma2 (slotSem (8 + j)) srcw (slM (8 + j)) hs0 hd0) fun _ =>
          .op (.load inM (slR (8 + j)).toLoadRect hl1) fun v => .op (.load wbM wR.toLoadRect hl2) fun w =>
          .op (.load outM (chR j).toLoadRect hl3) fun _ => .op (.store outM (chR j) (pf v w) Finset.univ hx hm) K)) := by
  unfold Owning Slots
  rw [slot_lt X c (show 8 + j < 16 by omega)]
  iintro ⟨#HC, ⟨Hk, H1, H2, H3⟩, Hw, HS, HO⟩ HK
  ihave HS := (upto_take _ _ hj') $$ HS
  icases HS with ⟨Hp, HS⟩
  unfold OutPre
  iapply (wp_await X c (8 + j) 8) $$ [Hk HO]
  · isplitl [Hk]; · iexact Hk
    isplitl [HO]; · iexact HO
    iapply (ctx_lev X W κ) $$ HC
  iintro ⟨Hin, Hfree, HO⟩
  iapply (wp_mul X W c outM (8 + j) j pf hp) $$ [Hin Hw Hp]
  · isplitl [Hin]; · iexact Hin
    isplitl [Hw]; · iexact Hw
    iexact Hp
  iintro ⟨Hin, Hw, Hs⟩
  ihave Hfree := Hfree $$ Hin
  iapply HK
  isplitr; · iexact HC
  isplitl [H1 H2 H3 Hfree]
  · isplitl [H1]; · iexact H1
    isplitl [H2]; · iexact H2
    isplitl [H3]; · iexact H3
    rw [show 8 + (j + 1) + 3 = 8 + j + 4 by omega, slot_ge X c (show 12 ≤ 8 + j by omega)]
    iexact Hfree
  isplitl [Hw]; · iexact Hw
  isplitl [HS Hs]; · iapply HS; unfold OutMid; iexact Hs
  iexact HO

/-- Chunk `k` of the peer's products: waited for and added to the device's own. -/
theorem wp_fold {k : ℕ} (hk : k < 8) (pf : Vec F S1x128x2048 .f32 → Vec F S1x128x2048 .f32 → FVec F S1x128x2048 .f32)
    (hp : ∀ v w, pf v w = k0_pay19 v w)
    {s' : Shape} {e' : EltTy} {sp' : Space} {srcw : Memref sig .tc sp' s' e'} {hs0 : srcw.view.WordExact} {hd0 : (chM recvM k).view.WordExact}
    {hl1 : outM.view.LoadsAt (chR k).toLoadRect} {hl2 : recvM.view.LoadsAt (chR k).toLoadRect}
    {hl3 : outM.view.LoadsAt (chR k).toLoadRect} {hx : (outM.access (chR k)).Stores Finset.univ}
    {hm : (Finset.univ : Finset (chR k).shape.Idx) = Finset.univ ∨ ∀ a, (chR k).stride a = 1}
    {K : PUnit → Prog (TpuEff nD τ sig (Elt F) Λ₀ .tc) α} :
    Folding X W κ c k ⊢ iprop((Folding X W κ c (k + 1) -∗ Runs c Q (K ⟨⟩))
      -∗ Runs c Q (.op (.waitDma2 (recvSem k) srcw (chM recvM k) hs0 hd0) fun _ =>
          .op (.load outM (chR k).toLoadRect hl1) fun v => .op (.load recvM (chR k).toLoadRect hl2) fun w =>
          .op (.load outM (chR k).toLoadRect hl3) fun _ => .op (.store outM (chR k) (pf v w) Finset.univ hx hm) K)) := by
  unfold Folding owesE
  iintro ⟨#HC, HS, ⟨%Ws, HO⟩⟩ HK
  ihave HS := (upto_take _ _ hk) $$ HS
  icases HS with ⟨Hp, HS⟩
  unfold FoldPre OutMid
  icases Hp with ⟨Hcr, Hat, Hout⟩
  iapply (Rounds.wp_wait_rest_token 𝒱₀ ER (Rd X W) (c : Thread nD τ) none (κ := κ (recvCell c k)) (sm := .dma (recvSem k)) (wpE_waitDma2_eq (hsrc := hs0) (hdst := hd0) 𝒱₀ (c : Thread nD τ) none Set.univ) (Set.mem_univ _) ()
    (O := due c 8) (W := Ws) (R := 0) (m := 0) (T := ∅) (expect_recv X W c hk)) $$ [Hcr Hat HO]
  · isplitr; · iapply (ctx_recv X W κ c hk) $$ HC
    isplitl [Hcr]; · iexact Hcr
    isplitl [HO]; · iexact HO
    isplitr; · rw [due_last, MayWait_zero]; iempintro
    iexact Hat
  rw [rest_recv X W c hk]
  unfold pay
  iintro ⟨HO, Hat, -, Hr⟩
  iapply (wp_load_own c (prod X W c (8 + k))) $$ Hout
  iintro Hout
  iapply (wp_load_own c (prod X W (peer c) k)) $$ Hr
  iintro Hr
  iapply (wp_load_own c (prod X W c (8 + k))) $$ Hout
  iintro Hout
  rw [hp]
  iapply (wp_store_own c) $$ [Hout]
  · iapply (ownV_any c _ _) $$ Hout
  iintro Hout
  imod (Rounds.cell_close ER (Rd X W) (Set.mem_univ (κ (recvCell c k))) (unitless_not X W _) (R := 0 + 1) (fun r hr => duties_later X W (recvCell c k) r (by omega))) $$ [Hat] with Hz
  · isplitr; · iapply (ctx_recv X W κ c hk) $$ HC
    iexact Hat
  iapply HK
  isplitr; · iexact HC
  isplitl [HS Hz Hr Hout]
  · iapply HS
    unfold FoldPost
    isplitl [Hz]; · iexact Hz
    isplitl [Hr]; · iapply (ownV_any c _ _) $$ Hr
    iexact Hout
  iexists _; iexact HO

/-- Waiting for copy `k` to have left. -/
theorem wp_drain {k : ℕ} (hk : k < 8)
    {s' : Shape} {e' : EltTy} {sp' : Space} {srcw : Memref sig .tc sp' s' e'} {hs0 : srcw.view.WordExact} {hd0 : (chM sendM k).view.WordExact}
    {K : PUnit → Prog (TpuEff nD τ sig (Elt F) Λ₀ .tc) α} :
    Draining X W κ c k ⊢ iprop((Draining X W κ c (k + 1) -∗ Runs c Q (K ⟨⟩))
      -∗ Runs c Q (.op (.waitDma2 (sendSem k) srcw (chM sendM k) hs0 hd0) K)) := by
  unfold Draining owesE
  iintro ⟨#HC, HS, ⟨%Ws, HO⟩⟩ HK
  ihave HS := (upto_take _ _ hk) $$ HS
  icases HS with ⟨Hp, HS⟩
  unfold DrainPre SendPost
  icases Hp with ⟨Hcr, Hat⟩
  iapply (Rounds.wp_wait_rest_token 𝒱₀ ER (Rd X W) (c : Thread nD τ) none (κ := κ (sendCell c k)) (sm := .dma (sendSem k)) (wpE_waitDma2_eq (hsrc := hs0) (hdst := hd0) 𝒱₀ (c : Thread nD τ) none Set.univ) (Set.mem_univ _) ()
    (O := due c 8) (W := Ws) (R := 0) (m := 0) (T := ∅) (expect_send X W c hk)) $$ [Hcr Hat HO]
  · isplitr; · iapply (ctx_send X W κ c hk) $$ HC
    isplitl [Hcr]; · iexact Hcr
    isplitl [HO]; · iexact HO
    isplitr; · rw [due_last, MayWait_zero]; iempintro
    iexact Hat
  rw [rest_send X W c hk]
  unfold pay
  iintro ⟨HO, Hat, -, Hr⟩
  imod (Rounds.cell_close ER (Rd X W) (Set.mem_univ (κ (sendCell c k))) (unitless_not X W _) (R := 0 + 1) (fun r hr => duties_later X W (sendCell c k) r (by omega))) $$ [Hat] with Hz
  · isplitr; · iapply (ctx_send X W κ c hk) $$ HC
    iexact Hat
  iapply HK
  isplitr; · iexact HC
  isplitl [HS Hz Hr]
  · iapply HS
    unfold DrainPost
    isplitl [Hz]; · iexact Hz
    iapply (ownV_any c _ _) $$ Hr
  iexists _; iexact HO

end Cert.OProj

end
-- ==== Proof.Ends.lean ====
/-
  What a device holds when the kernel starts and when it ends, and how the buffers come apart into the pieces the steps
  use and are put together again.
-/
module

public import proofs.«01_k».proof.Proof.Jobs
public import Idealize.ShloMosaic.Lib.Ring

@[expose] public section

noncomputable section

namespace Cert.OProj

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → main_v1.ty.Contents (Elt F)) (W : Dev nD → main_arg1.ty.Contents (Elt F))
variable (κ : GSem nD τ sig → ℕ) (c : Dev nD)

/-! ## A buffer and rectangles that tile it -/

section Tiles

variable {s : Shape} {sp : Space} {e : EltTy} {n : ℕ} (v : View sig .tc sp s e) (hv : v.set = Finset.univ) (r : ℕ → Rect s)
  (hd : ∀ {i j : ℕ}, i < n → j < n → i ≠ j → Disjoint (r i).set (r j).set)
  (hc : (Finset.univ : Finset (Fin n)).biUnion (fun i => (r i.val).set) = Finset.univ)

theorem numbered (Φ : ℕ → sProp 𝕄) : bigSep Finset.univ (fun i : Fin n => Φ i.val) = bigSep (Finset.range n) Φ := by
  rw [show Finset.range n = Finset.univ.map (Fin.valEmbedding (n := n)) by ext x; simp [Fin.exists_iff], bigSep_map]
  rfl

include hd in
theorem tiles_disjoint (i j : Fin n) (h : i ≠ j) : Disjoint (v.slice (r i.val)).set (v.slice (r j.val)).set := by
  rw [View.set_slice, View.set_slice, Finset.disjoint_map]
  exact hd i.isLt j.isLt (fun e => h (Fin.ext e))

include hv hc in
theorem tiles_cover : Finset.biUnion (β := v.ty.Idx) (Finset.univ : Finset (Fin n)) (fun i => (v.slice (r i.val)).set) = Finset.univ := by
  ext x
  refine ⟨fun _ => Finset.mem_univ _, fun _ => ?_⟩
  have hx : x ∈ v.set := hv ▸ Finset.mem_univ x
  obtain ⟨y, -, rfl⟩ := Finset.mem_map.mp hx
  obtain ⟨i, hi, hy⟩ := Finset.mem_biUnion.mp (hc.symm ▸ Finset.mem_univ y : y ∈ (Finset.univ : Finset (Fin n)).biUnion (fun i => (r i.val).set))
  refine Finset.mem_biUnion.mpr ⟨i, hi, ?_⟩
  rw [View.set_slice]
  exact Finset.mem_map_of_mem _ hy

omit [FloatOps F] in
/-- Elements at given contents are at some. -/
theorem known_any {s : Shape} (v : View sig .tc sp s e) (f : Buf (Elt F) (v.loc (c : Thread nD τ))) :
    (v.loc (c : Thread nD τ) ↦[v.set]{fullShare} f) ⊢ (anyV F c v : sProp 𝕄) := by
  unfold anyV; iintro H; iexists f; iexact H

include hv hd hc in
/-- A buffer at any contents is its tiles at any contents, -/
theorem split_tiles : iprop(∃ f, v.loc (c : Thread nD τ) ↦{fullShare} f) ⊢ (bigSep (Finset.range n) fun i => anyV F c (v.slice (r i)) : sProp 𝕄) := by
  rw [← numbered]
  iintro ⟨%f, H⟩
  ihave H := (Entails.of_eq (Ring.pointsTo_blocks (ℓ := v.loc (c : Thread nD τ)) (fun i : Fin n => (v.slice (r i.val)).set) (tiles_disjoint v r hd) (tiles_cover v hv r hc) f)) $$ H
  iapply (show bigSep Finset.univ (fun i : Fin n => (v.loc (c : Thread nD τ) ↦[(v.slice (r i.val)).set]{fullShare} f : sProp 𝕄))
    ⊢ bigSep Finset.univ fun i : Fin n => anyV F c (v.slice (r i.val)) from bigSep_mono fun i _ => known_any c (v.slice (r i.val)) f) $$ H

include hv hd hc in
/-- and the other way round. -/
theorem join_tiles [Nonempty (Buf (Elt F) (v.loc (c : Thread nD τ)))] :
    (bigSep (Finset.range n) fun i => anyV F c (v.slice (r i)) : sProp 𝕄) ⊢ iprop(∃ f, v.loc (c : Thread nD τ) ↦{fullShare} f) := by
  rw [← numbered]
  exact Ring.pointsTo_blocks_join_exists (ℓ := v.loc (c : Thread nD τ)) (fun i : Fin n => (v.slice (r i.val)).set) (tiles_disjoint v r hd) (tiles_cover v hv r hc) (Classical.arbitrary _)

include hv hd hc in
/-- Tiles at known values are the buffer at contents that read so on each. -/
theorem join_tiles_own [Nonempty (Buf (Elt F) (v.loc (c : Thread nD τ)))] (Z : (i : ℕ) → (r i).shape.Idx → Elt F e) :
    (bigSep (Finset.range n) fun i => ownV c (v.slice (r i)) (Z i) : sProp 𝕄)
      ⊢ iprop(∃ f, ⌜∀ i : Fin n, (v.slice (r i.val)).read (Elt F) f = Z i.val⌝ ∗ v.loc (c : Thread nD τ) ↦{fullShare} f) := by
  rw [← numbered]
  unfold ownV
  refine (bigSep_exists_pi Finset.univ (fun (i : Fin n) (f : Buf (Elt F) (v.loc (c : Thread nD τ))) =>
    (iprop(⌜(v.slice (r i.val)).read (Elt F) f = Z i.val⌝ ∗ v.loc (c : Thread nD τ) ↦[(v.slice (r i.val)).set]{fullShare} f) : sProp 𝕄))).trans ?_
  iintro ⟨%fs, H⟩
  ihave H := (bigSep_pure_sep Finset.univ (fun i : Fin n => (v.slice (r i.val)).read (Elt F) (fs i) = Z i.val)
    (fun i => (v.loc (c : Thread nD τ) ↦[(v.slice (r i.val)).set]{fullShare} fs i : sProp 𝕄))) $$ H
  icases H with ⟨%hz, H⟩
  ihave H := (pointsTo_biUnion_join Finset.univ (fun i : Fin n => (v.slice (r i.val)).set) fs (Classical.arbitrary _)
    (fun i _ j _ h => tiles_disjoint v r hd i j h)) $$ H
  icases H with ⟨%g, %hg, H⟩
  iexists g
  isplitr
  · ipureintro
    intro i
    rw [← hz i (Finset.mem_univ i)]
    exact View.read_congr fun x hx => hg i (Finset.mem_univ i) x hx
  rw [tiles_cover v hv r hc]
  iexact H

end Tiles

/-! ## The start and the end -/

/-- The four scratch buffers, at any contents. -/
def Mem (F : FTy → Type) (c : Dev nD) : sProp (MT nD τ sig Unit (Elt F) ℕ UU ℕ) :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The two operands the kernel copies from. -/
def Arr : sProp 𝕄 :=
  iprop((((c : Thread nD τ).loc main_arg1) ↦{fullShare} W c) ∗ (((c : Thread nD τ).loc main_v1) ↦{fullShare} X c))

/-- The semaphores of the local copies, at zero. -/
def Sems (F : FTy → Type) (c : Dev nD) : sProp (MT nD τ sig Unit (Elt F) ℕ UU ℕ) :=
  iprop(semVal ((c : Thread nD τ), .dma wSem) 0 ∗ bigSep (Finset.range 4) fun s => semVal ((c : Thread nD τ), .dma (slotSem s)) 0)

/-- The device's part of the exchange at the start. -/
def Ghost (F : FTy → Type) (c : Dev nD) : sProp (MT nD τ sig Unit (Elt F) ℕ UU ℕ) :=
  iprop((cred (tallyAt (barCell c) () 1) ∗ atPos ER (barCell c) 0 ∅ 0 ∗ dutyTok ER (barCell (peer c)) 0 () ∗ reached ER (barCell (peer c)) 0)
    ∗ (bigSep (Finset.range 8) fun i => atPos ER (sendCell c i) 0 ∅ 0)
    ∗ (bigSep (Finset.range 8) fun i => reached ER (sendCell c i) 0)
    ∗ (bigSep (Finset.range 8) fun i => dutyTok ER (sendCell c i) 0 ())
    ∗ (bigSep (Finset.range 8) fun i => atPos ER (recvCell c i) 0 ∅ 0)
    ∗ (bigSep (Finset.range 8) fun i => reached ER (recvCell c i) 0)
    ∗ (bigSep (Finset.range 8) fun i => dutyTok ER (recvCell (peer c) i) 0 ())
    ∗ (bigSep (Finset.range 8) fun i => cred (tallyAt (recvCell c i) () NN)))

/-- What device `c` holds when the kernel starts, beside its result's memory and what it owes. -/
def Start : sProp 𝕄 := iprop((∃ κ, Ctx X W κ) ∗ Ghost F c ∗ Mem F c ∗ Arr X W c ∗ Sems F c)

/-- What it holds when the kernel ends. -/
def Done : sProp 𝕄 :=
  iprop(Mem F c ∗ Arr X W c ∗ Sems F c ∗ (bigSep (Finset.range 8) fun i => semVal (sendCell c i) 0)
    ∗ (bigSep (Finset.range 8) fun i => semVal (recvCell c i) 0) ∗ semVal (barCell c) 0)

/-! ## The slots -/

/-- The read share of the activations that no copy borrows. -/
def xRest : sProp 𝕄 := xM.view.loc (c : Thread nD τ) ↦{Transfers.shareDrop fullShare 4} X c

theorem free_range :
    bigSep (Finset.range 4) (fun k => Free X c k)
      = (iprop((bigSep (Finset.range 4) fun k => anyV F c (inM.access (slR k)))
        ∗ (bigSep (Finset.range 4) fun k => semVal ((c : Thread nD τ), .dma (slotSem k)) 0)
        ∗ bigSep (Finset.range 4) fun k => xM.view.loc (c : Thread nD τ) ↦{Transfers.shareTokN fullShare k} X c) : sProp 𝕄) := by
  rw [← bigSep_sep', ← bigSep_sep']
  refine bigSep_congr fun k hk => ?_
  unfold Free xT
  rw [Nat.mod_eq_of_lt (Finset.mem_range.mp hk)]

theorem four (Φ : ℕ → sProp 𝕄) : bigSep (Finset.range 4) Φ = iprop(Φ 0 ∗ Φ 1 ∗ Φ 2 ∗ Φ 3) :=
  bigSep_eq_bigSepL_of_eq [0, 1, 2, 3] (by decide) (by decide) Φ

/-- At the start every slot is free, -/
theorem slots_open :
    iprop((∃ f, (inM.view.loc (c : Thread nD τ)) ↦{fullShare} f) ∗ (xM.view.loc (c : Thread nD τ) ↦{fullShare} X c)
      ∗ bigSep (Finset.range 4) fun s => semVal ((c : Thread nD τ), .dma (slotSem s)) 0)
      ⊢ (iprop(xRest X c ∗ Free X c 0 ∗ Free X c 1 ∗ Free X c 2 ∗ Free X c 3) : sProp 𝕄) := by
  rw [← four (fun k => Free X c k), free_range]
  iintro ⟨Hf, Hx, Hs⟩
  ihave Hx := (Transfers.pointsTo_toks_range (ℓ := xM.view.loc (c : Thread nD τ)) (f := X c) (S := Finset.univ) fullShare 4).1 $$ Hx
  icases Hx with ⟨Hr, Ht⟩
  isplitl [Hr]; · unfold xRest; iexact Hr
  isplitl [Hf]
  · iapply (split_tiles c inM.view (View.set_whole _) slR slR_disjoint slR_cover) $$ Hf
  isplitl [Hs]; · iexact Hs
  iexact Ht

/-- and after the last piece again. -/
theorem slots_close :
    iprop(xRest X c ∗ Slots X c 16)
      ⊢ (iprop((∃ f, (inM.view.loc (c : Thread nD τ)) ↦{fullShare} f) ∗ (xM.view.loc (c : Thread nD τ) ↦{fullShare} X c)
      ∗ bigSep (Finset.range 4) fun s => semVal ((c : Thread nD τ), .dma (slotSem s)) 0) : sProp 𝕄) := by
  have e (j : ℕ) : Slot X c (16 + j) = Free X c j := by
    rw [show 16 + j = (12 + j) + 4 by omega, slot_ge X c (by omega), show 12 + j = j + 4 + 4 + 4 by omega, Free_mod, Free_mod, Free_mod]
  unfold Slots
  rw [show Slot X c 16 = Free X c 0 from e 0, e 1, e 2, e 3, ← four (fun k => Free X c k), free_range]
  iintro ⟨Hr, Hf, Hs, Ht⟩
  isplitl [Hf]
  · haveI : Nonempty (Buf (Elt F) (inM.view.loc (c : Thread nD τ))) := ⟨fun _ => (FloatOps.ofBits .f32 0 : F .f32)⟩
    iapply (join_tiles c inM.view (View.set_whole _) slR slR_disjoint slR_cover) $$ Hf
  isplitl [Hr Ht]
  · iapply (Transfers.pointsTo_toks_range (ℓ := xM.view.loc (c : Thread nD τ)) (f := X c) (S := Finset.univ) fullShare 4).2
    isplitl [Hr]; · unfold xRest; iexact Hr
    iexact Ht
  iexact Hs

/-! ## The weights -/

theorem wR_set : (wbM.access wR).set = Finset.univ := by
  show ((View.whole cc0_scratch1).slice wR).set = _
  rw [View.set_slice_whole]
  ext x
  simp only [Finset.mem_univ, iff_true]
  rw [Rect.mem_set_unit]
  intro a
  match a with
  | 0 => exact ⟨Nat.zero_le _, by show (x 0).val < 0 + 1024; have := (x 0).isLt; change _ < 1024 at this; omega⟩
  | 1 => exact ⟨Nat.zero_le _, by show (x 1).val < 0 + 2048; have := (x 1).isLt; change _ < 2048 at this; omega⟩

theorem wR_read (f : cc0_scratch1.ty.Contents (Elt F)) : (wbM.access wR).read (Elt F) f = f :=
  Memref.read_access_unit_zero (Elt F) cc0_scratch1 (by funext a; match a with | 0 => rfl | 1 => rfl) _ f

end Cert.OProj

end
-- ==== Proof.Prologue.lean ====
/-
  The steps made once: the weights brought in, the barrier with the peer, and how what one stage leaves is what the next
  takes. Also the closed forms of the generated offsets and devices in this proof's own terms.
-/
module

public import proofs.«01_k».proof.Proof.Ends

@[expose] public section

noncomputable section

namespace Cert.OProj

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → main_v1.ty.Contents (Elt F)) (W : Dev nD → main_arg1.ty.Contents (Elt F))
variable (κ : GSem nD τ sig → ℕ) (c : Dev nD)

/-! ## The generated offsets and devices -/

theorem peer_of {n : ℕ} (h : n < nD) (e : n = (8 * (c.val / 8) + c.val % 4 + 4) - 4 * ((c.val / 4) % 2)) : (⟨n, h⟩ : Dev nD) = peer c :=
  Fin.ext e

/-- The offset of a piece of the peer's half, -/
theorem off_peer {k : ℕ} (hk : k < 8) {off : Fin 3 → ℕ}
    (h : off = ![k / 4, (128 * (k % 4) + 512) - 512 * ((c.val / 4) % 2), 0]) : off = srcOff c k := by
  rw [h, srcOff, if_pos hk, Nat.mod_eq_of_lt (show k / 4 < 2 by omega)]
  congr 2
  omega

/-- and of the device's own. -/
theorem off_own {k : ℕ} (hk : 8 ≤ k) (hk' : k < 16) {off : Fin 3 → ℕ}
    (h : off = ![k / 4 - 2, 512 * ((c.val / 4) % 2) + 128 * (k % 4), 0]) : off = srcOff c k := by
  rw [h, srcOff, if_neg (by omega), show (k / 4) % 2 = k / 4 - 2 by omega]

variable {α : Type} {Q : α → sProp (MT nD τ sig Unit (Elt F) ℕ UU ℕ)}

/-! ## The weights -/

/-- The weights' amount. -/
def NW : ℕ := wbM.view.dmaCredit
theorem NW_pos : 0 < NW := View.dmaCredit_pos _ (by decide)

/-- The weights on their way. -/
def WFl : sProp 𝕄 :=
  Transfers.Flight (EC (F := F)) (c : Thread nD τ) (.dma wSem) () NW iprop(WB W c ∗ (wM.view.loc (c : Thread nD τ) ↦{fullShare} W c))

/-- Starting the copy of the weights. -/
theorem wp_weights {K : PUnit → Prog (TpuEff nD τ sig (Elt F) Λ₀ .tc) α} {hs : wM.view.WordExact} {hd : wbM.view.WordExact}
    {he : DmaTarget.Typed (nD := nD) (τ := τ) Space.hbm (.dma wSem) (.here (p := Proc.tc) wbM)} :
    iprop((∃ f : Buf (Elt F) ((c : Thread nD τ).loc cc0_scratch1), ((c : Thread nD τ).loc cc0_scratch1) ↦{fullShare} f)
        ∗ (((c : Thread nD τ).loc main_arg1) ↦{fullShare} W c) ∗ semVal ((c : Thread nD τ), .dma wSem) 0)
      ⊢ iprop((WFl W c -∗ Runs c Q (K ⟨⟩)) -∗ Runs c Q (.op (.enqueueDma wM (.here wbM) (.dma wSem) hs hd he) K)) := by
  iintro ⟨⟨%fd, Hd⟩, Hx, Hv⟩ Hk
  iapply (Transfers.wp_dmaLocal (EC (F := F)) 𝒱₀ (c : Thread nD τ) none (src := wM) (dst := wbM)
    (fs := W c) (fd := fd) (Sd := Finset.univ) () NW rfl NW_pos (Finset.subset_univ _)) $$ [Hx Hd Hv] [Hk]
  · isplitl [Hx]; · rw [View.set_whole]; iexact Hx
    isplitl [Hd]; · iexact Hd
    iexact Hv
  iintro HF
  iapply Hk
  unfold WFl
  iapply (Transfers.Flight_mono (EC (F := F)) (c : Thread nD τ) ?_) $$ HF
  rw [View.set_whole]
  iintro ⟨Hd, Hx⟩
  isplitl [Hd]; swap; (· iexact Hx)
  unfold WB ownV
  iexists _
  isplitr; swap; (· rw [wR_set]; iexact Hd)
  ipureintro
  rw [wR_read]
  exact View.read_write_univ (v := wbM.view) (Val := Elt F) fd (W c)

theorem lv_w : lv ((c : Thread nD τ), .dma wSem) () = 0 := by
  unfold lv
  simp only [show role (.dma wSem) = .other from by unfold role; simp only [wSem_val]; rfl]

/-- Waiting for the weights. -/
theorem wp_weights_wait (j : ℕ) {s' : Shape} {e' : EltTy} {sp' : Space} {srcw : Memref sig .tc sp' s' e'} {hs : srcw.view.WordExact}
    {hd : wbM.view.WordExact} {K : PUnit → Prog (TpuEff nD τ sig (Elt F) Λ₀ .tc) α} :
    iprop(WFl W c ∗ owesE F c (due c j) ∗ levAts L lv)
      ⊢ iprop((iprop(WB W c ∗ (((c : Thread nD τ).loc main_arg1) ↦{fullShare} W c) ∗ semVal ((c : Thread nD τ), .dma wSem) 0 ∗ owesE F c (due c j)) -∗ Runs c Q (K ⟨⟩))
        -∗ Runs c Q (.op (.waitDma2 wSem srcw wbM hs hd) K)) := by
  unfold WFl owesE
  iintro ⟨HF, ⟨%Ws, HO⟩, HL⟩ Hk
  iapply (Transfers.wp_waitLocalO (EC (F := F)) 𝒱₀ (c : Thread nD τ) none (dstw := wbM) () (N := NW) rfl (O := due c j) (W := Ws)) $$ [HF HO HL] [Hk]
  · isplitl [HF]; · iexact HF
    isplitl [HO]; · iexact HO
    iapply (mayWait_due c j (.dma wSem) (by rw [lv_w]; exact Nat.zero_le _)) $$ HL
  iintro ⟨⟨Hd, Hx⟩, Hv, HO⟩
  iapply Hk
  isplitl [Hd]; · iexact Hd
  isplitl [Hx]; · iexact Hx
  isplitl [Hv]; · iexact Hv
  iexists _; iexact HO

/-- The weights' buffer again as a buffer at some contents. -/
theorem weights_close :
    WB W c ⊢ (iprop(∃ f : Buf (Elt F) ((c : Thread nD τ).loc cc0_scratch1), ((c : Thread nD τ).loc cc0_scratch1) ↦{fullShare} f) : sProp 𝕄) := by
  unfold WB ownV
  rw [wR_set]
  iintro ⟨%f, -, H⟩
  iexists f; iexact H

/-! ## The barrier -/

set_option maxRecDepth 65536 in
/-- Telling the peer: it may write into the receive buffer. -/
theorem wp_meet_signal {n : Dev nD} (hn : n = peer c) {k' : ℕ} (hk' : 1 = k') {K : PUnit → Prog (TpuEff nD τ sig (Elt F) Λ₀ .tc) α} :
    iprop(Ctx X W κ ∗ dutyTok ER (barCell (peer c)) 0 () ∗ reached ER (barCell (peer c)) 0
        ∗ (bigSep (Finset.range 8) fun i => anyV F c (recvM.access (chR i)))
        ∗ (bigSep (Finset.range 8) fun i => reached ER (recvCell c i) 0) ∗ owesE F c (due₀ c))
      ⊢ iprop((owesE F c (due c 0) -∗ Runs c Q (K ⟨⟩)) -∗ Runs c Q (.op (.semSignal (Dev.tc n) barS k') K)) := by
  subst hn hk'
  unfold owesE
  iintro ⟨#HC, Ht, Hr, Hb, Hrs, ⟨%Ws, HO⟩⟩ Hk
  iapply (Rounds.wp_signal 𝒱₀ ER (Rd X W) (c : Thread nD τ) none (dst := ((peer c : Dev nD) : Thread nD τ)) (κ := κ (barCell (peer c))) (r := 0) (d := ())
    (by rw [duties_bar]; exact Finset.mem_singleton_self _) (amount_bar X W (peer c)) () (O₀ := due₀ c) (due c 0) rfl (W := Ws)) $$ [Ht Hr Hb Hrs HO] [Hk]
  · isplitr; · iapply (ctx_bar X W κ (peer c)) $$ HC
    isplitl [HO]; · iexact HO
    isplitl [Ht]; · iexact Ht
    isplitl [Hb Hrs]
    · rw [payload_bar]
      unfold pay
      rw [peer_peer]
      isplitl [Hb]; · iexact Hb
      iexact Hrs
    iexact Hr
  iintro HO
  iapply Hk
  iexists _; iexact HO

set_option maxRecDepth 65536 in
/-- Waiting for the peer to say the same. -/
theorem wp_meet_wait {k' : ℕ} (hk' : 1 = k') {K : PUnit → Prog (TpuEff nD τ sig (Elt F) Λ₀ .tc) α} :
    iprop(Ctx X W κ ∗ cred (tallyAt (barCell c) () 1) ∗ atPos ER (barCell c) 0 ∅ 0 ∗ owesE F c (due c 0))
      ⊢ iprop((iprop(semVal (barCell c) 0 ∗ (bigSep (Finset.range 8) fun i => anyV F (peer c) (recvM.access (chR i)))
            ∗ (bigSep (Finset.range 8) fun i => reached ER (recvCell (peer c) i) 0) ∗ owesE F c (due c 0)) -∗ Runs c Q (K ⟨⟩))
        -∗ Runs c Q (.op (.semWait barS k') K)) := by
  subst hk'
  unfold owesE
  iintro ⟨#HC, Hcr, Hat, ⟨%Ws, HO⟩⟩ Hk
  iapply (Rounds.wp_wait_rest_token 𝒱₀ ER (Rd X W) (c : Thread nD τ) none (κ := κ (barCell c)) (sm := .reg barS) (wpE_semWait_eq 𝒱₀ (c : Thread nD τ) none Set.univ) (Set.mem_univ _) ()
    (O := due c 0) (W := Ws) (R := 0) (m := 0) (T := ∅) (expect_bar X W c)) $$ [Hcr Hat HO]
  · isplitr; · iapply (ctx_bar X W κ c) $$ HC
    isplitl [Hcr]; · iexact Hcr
    isplitl [HO]; · iexact HO
    isplitr
    · iapply (mayWait_due c 0 (.reg barS) (by simp only [lv, role_bar]; omega))
      iapply (ctx_lev X W κ) $$ HC
    iexact Hat
  rw [rest_bar X W c]
  unfold pay
  iintro ⟨HO, Hat, -, Hb, Hrs⟩
  imod (Rounds.cell_close ER (Rd X W) (Set.mem_univ (κ (barCell c))) (unitless_not X W _) (R := 0 + 1) (fun r hr => duties_later X W (barCell c) r (by omega))) $$ [Hat] with Hz
  · isplitr; · iapply (ctx_bar X W κ c) $$ HC
    iexact Hat
  iapply Hk
  isplitl [Hz]; · iexact Hz
  isplitl [Hb]; · iexact Hb
  isplitl [Hrs]; · iexact Hrs
  iexists _; iexact HO

/-! ## From one stage to the next -/

/-- All eight copies may be made. -/
theorem send_ready :
    iprop((bigSep (Finset.range 8) fun i => anyV F c (sendM.access (chR i))) ∗ (bigSep (Finset.range 8) fun i => anyV F (peer c) (recvM.access (chR i)))
        ∗ (bigSep (Finset.range 8) fun i => dutyTok ER (sendCell c i) 0 ()) ∗ (bigSep (Finset.range 8) fun i => reached ER (sendCell c i) 0)
        ∗ (bigSep (Finset.range 8) fun i => dutyTok ER (recvCell (peer c) i) 0 ()) ∗ (bigSep (Finset.range 8) fun i => reached ER (recvCell (peer c) i) 0))
      ⊢ (Upto (SendPre (F := F) c) (SendPost c) 0 : sProp 𝕄) := by
  refine BIBase.Entails.trans ?_ (upto_zero (SendPre (F := F) c) (SendPost c))
  unfold SendPre
  rw [← bigSep_sep', ← bigSep_sep', ← bigSep_sep', ← bigSep_sep', ← bigSep_sep']

/-- The peer's products may be added once the device's own are in the result. -/
theorem fold_ready :
    iprop((bigSep (Finset.range 8) fun i => cred (tallyAt (recvCell c i) () NN)) ∗ (bigSep (Finset.range 8) fun i => atPos ER (recvCell c i) 0 ∅ 0)
        ∗ Upto (OutPre (F := F) c) (OutMid X W c) 8)
      ⊢ (Upto (FoldPre X W c) (FoldPost X W c) 0 : sProp 𝕄) := by
  refine BIBase.Entails.trans ?_ (upto_zero (FoldPre X W c) (FoldPost X W c))
  unfold FoldPre
  rw [bigSep_sep', bigSep_sep']
  exact sep_mono .rfl (sep_mono .rfl (upto_eight _ _))

/-- Every copy has been made, so every leaving may be waited for. -/
theorem drain_ready :
    iprop(Upto (SendPre (F := F) c) (SendPost c) 8 ∗ bigSep (Finset.range 8) fun i => atPos ER (sendCell c i) 0 ∅ 0)
      ⊢ (Upto (DrainPre (F := F) c) (DrainPost c) 0 : sProp 𝕄) := by
  refine BIBase.Entails.trans ?_ (upto_zero (DrainPre (F := F) c) (DrainPost c))
  unfold DrainPre
  rw [bigSep_sep']
  exact sep_mono (upto_eight _ _) .rfl

/-- After the drain: the send buffer and its semaphores. -/
theorem drain_done :
    Upto (DrainPre (F := F) c) (DrainPost c) 8
      ⊢ (iprop((bigSep (Finset.range 8) fun i => semVal (sendCell c i) 0) ∗ bigSep (Finset.range 8) fun i => anyV F c (sendM.access (chR i))) : sProp 𝕄) := by
  refine (upto_eight _ _).trans ?_
  unfold DrainPost
  rw [bigSep_sep']

/-- After the additions: the receive semaphores, the receive buffer and the result. -/
theorem fold_done :
    Upto (FoldPre X W c) (FoldPost X W c) 8
      ⊢ (iprop((bigSep (Finset.range 8) fun i => semVal (recvCell c i) 0) ∗ (bigSep (Finset.range 8) fun i => anyV F c (recvM.access (chR i)))
        ∗ bigSep (Finset.range 8) fun i => ownV c (outM.access (chR i)) (outV X W c i)) : sProp 𝕄) := by
  refine (upto_eight _ _).trans ?_
  unfold FoldPost
  rw [bigSep_sep', bigSep_sep']

/-- A buffer of eight chunks, taken apart -/
theorem chunks_open (M : Memref sig .tc .vmem S2x512x2048 .f32) (hM : M.view.set = Finset.univ) :
    iprop(∃ f, M.view.loc (c : Thread nD τ) ↦{fullShare} f) ⊢ (bigSep (Finset.range 8) fun i => anyV F c (M.access (chR i)) : sProp 𝕄) :=
  split_tiles c M.view hM chR chR_disjoint chR_cover

end Cert.OProj

end
-- ==== Proof.Body.lean ====
/-
  The kernel's body on one device, from the start to the end: the steps in the program's order.
-/
module

public import proofs.«01_k».proof.Proof.Prologue

@[expose] public section

noncomputable section

namespace Cert.OProj

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → main_v1.ty.Contents (Elt F)) (W : Dev nD → main_arg1.ty.Contents (Elt F))
variable (κ : GSem nD τ sig → ℕ) (c : Dev nD)

/-- The result on device `c`: element `(b, r, n)` is in chunk `4 b + r / 128`, at row `r % 128`. -/
def outF : cc0_stg0_0.ty.Contents (Elt F) := fun x : S2x512x2048.Idx =>
  outV X W c (4 * (x 0).val + (x 1).val / 128) (show S1x128x2048.Idx from
    fun a => match a with
    | 0 => ⟨0, by decide⟩
    | 1 => ⟨(x 1).val % 128, Nat.mod_lt _ (by decide)⟩
    | 2 => ⟨(x 2).val, (x 2).isLt⟩)

/-- Contents that read as the result on every chunk are the result. -/
theorem out_eq (f : cc0_stg0_0.ty.Contents (Elt F)) (h : ∀ i : Fin 8, (outM.access (chR i.val)).read (Elt F) f = outV X W c i.val) :
    f = outF X W c := by
  funext x
  have h0 : (x 0).val < 2 := (x 0).isLt
  have h1 : (x 1).val < 512 := (x 1).isLt
  have hi : 4 * (x 0).val + (x 1).val / 128 < 8 := by omega
  unfold outF
  rw [← h ⟨_, hi⟩]
  show f x = f ((chR (4 * (x 0).val + (x 1).val / 128)).emb _)
  congr 1
  funext a
  apply Fin.ext
  show _ = chOff _ a + 1 * _
  match a with
  | 0 => show (x 0).val = (4 * (x 0).val + (x 1).val / 128) / 4 % 2 + 1 * 0; omega
  | 1 => show (x 1).val = 128 * ((4 * (x 0).val + (x 1).val / 128) % 4) + 1 * ((x 1).val % 128); omega
  | 2 => show (x 2).val = 0 + 1 * (x 2).val; omega

/-- The result's memory from its chunks. -/
theorem out_close :
    (bigSep (Finset.range 8) fun i => ownV c (outM.access (chR i)) (outV X W c i) : sProp 𝕄)
      ⊢ iprop(outM.view.loc (c : Thread nD τ) ↦{fullShare} outF X W c) := by
  haveI : Nonempty (Buf (Elt F) (outM.view.loc (c : Thread nD τ))) := ⟨fun _ => (FloatOps.ofBits .f32 0 : F .f32)⟩
  iintro H
  ihave H := (join_tiles_own c outM.view (View.set_whole _) chR chR_disjoint chR_cover (outV X W c)) $$ H
  icases H with ⟨%f, %hf, H⟩
  rw [out_eq X W c f hf]
  iexact H

/-- A buffer of eight chunks, put together. -/
theorem chunks_close (M : Memref sig .tc .vmem S2x512x2048 .f32) (hM : M.view.set = Finset.univ) [Nonempty (Buf (Elt F) (M.view.loc (c : Thread nD τ)))] :
    (bigSep (Finset.range 8) fun i => anyV F c (M.access (chR i)) : sProp 𝕄) ⊢ iprop(∃ f, M.view.loc (c : Thread nD τ) ↦{fullShare} f) :=
  join_tiles c M.view hM chR chR_disjoint chR_cover

/-- The first four pieces on their way. -/
theorem slots_started : iprop(Fl X c 0 ∗ Fl X c 1 ∗ Fl X c 2 ∗ Fl X c 3) ⊢ (Slots X c 0 : sProp 𝕄) := .rfl

variable {α : Type}

set_option maxRecDepth 65536 in
set_option maxHeartbeats 4000000 in
/-- The body, from the start to the end. -/
theorem run_body :
    iprop(Start X W c ∗ (∃ f, outM.view.loc (c : Thread nD τ) ↦{fullShare} f) ∗ owesE F c (due₀ c))
      ⊢ Runs c (fun _ => iprop(Done X W c ∗ (outM.view.loc (c : Thread nD τ) ↦{fullShare} outF X W c) ∗ owesE F c 0))
        (cc0_body (F := F) xM (Memref.isWhole_whole _) wM (Memref.isWhole_whole _) outM (Memref.isWhole_whole _) inM (Memref.isWhole_whole _)
          wbM (Memref.isWhole_whole _) sendM (Memref.isWhole_whole _) recvM (Memref.isWhole_whole _) cc0_scratch4 cc0_scratch5 cc0_scratch6 cc0_scratch7) := by
  rw [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel
  simp only [semSignalWord, semWaitWord, Prog.lift, Prog.bind_op, Prog.bind_ret, Prog.pure_eq_ret, wp_deviceId]
  unfold Start Ghost Mem Arr Sems
  iintro ⟨⟨⟨%κ, #HC⟩, ⟨⟨Hbc, Hba, Hbt, Hbr⟩, Hsa, #Hsr, Hst, Hra, #Hrr, Hrt, Hrc⟩, ⟨Hm0, Hm1, Hm2, Hm3⟩, ⟨Hw, Hx⟩, Hvw, Hvs⟩, Hout, HO⟩
  ihave Hf := (slots_open X c) $$ [Hm0 Hx Hvs]
  · isplitl [Hm0]; · iexact Hm0
    isplitl [Hx]; · iexact Hx
    iexact Hvs
  icases Hf with ⟨Hxr, Hf0, Hf1, Hf2, Hf3⟩
  iapply (wp_weights W c) $$ [Hm1 Hw Hvw]
  · isplitl [Hm1]; · iexact Hm1
    isplitl [Hw]; · iexact Hw
    iexact Hvw
  iintro HW
  iapply (wp_start X c 0 (off_peer c (k := 0) (by decide) (k0_off1_eq c 0))) $$ Hf0
  iintro Hs0
  iapply (wp_start X c 1 (off_peer c (k := 1) (by decide) (k0_off1_eq c 1))) $$ Hf1
  iintro Hs1
  iapply (wp_start X c 2 (off_peer c (k := 2) (by decide) (k0_off1_eq c 2))) $$ Hf2
  iintro Hs2
  iapply (wp_start X c 3 (off_peer c (k := 3) (by decide) (k0_off1_eq c 3))) $$ Hf3
  iintro Hs3
  ihave Hrb := (chunks_open c recvM (View.set_whole _)) $$ Hm3
  iapply (wp_meet_signal X W κ c (peer_of c (k0_dev1_lt c) (k0_dev1_eq c)) (by decide)) $$ [Hbt Hbr Hrb HO]
  · isplitr; · iexact HC
    isplitl [Hbt]; · iexact Hbt
    isplitl [Hbr]; · iexact Hbr
    isplitl [Hrb]; · iexact Hrb
    isplitr; · iexact Hrr
    iexact HO
  iintro HO
  iapply (wp_meet_wait X W κ c (by decide)) $$ [Hbc Hba HO]
  · isplitr; · iexact HC
    isplitl [Hbc]; · iexact Hbc
    isplitl [Hba]; · iexact Hba
    iexact HO
  iintro ⟨Hbz, Hpb, Hpr, HO⟩
  iapply (wp_weights_wait W c 0) $$ [HW HO]
  · isplitl [HW]; · iexact HW
    isplitl [HO]; · iexact HO
    iapply (ctx_lev X W κ) $$ HC
  iintro ⟨HW, Hw, Hvw, HO⟩
  ihave Hsb := (chunks_open c sendM (View.set_whole _)) $$ Hm2
  ihave HU := (send_ready (F := F) c) $$ [Hsb Hpb Hst Hrt Hpr]
  · isplitl [Hsb]; · iexact Hsb
    isplitl [Hpb]; · iexact Hpb
    isplitl [Hst]; · iexact Hst
    isplitr; · iexact Hsr
    isplitl [Hrt]; · iexact Hrt
    iexact Hpr
  ihave H := (show iprop(Ctx X W κ ∗ Slots X c 0 ∗ WB W c ∗ Upto (SendPre (F := F) c) (SendPost c) 0 ∗ owesE F c (due c 0)) ⊢ Sending X W κ c 0 from .rfl) $$ [Hs0 Hs1 Hs2 Hs3 HW HU HO]
  · isplitr; · iexact HC
    isplitl [Hs0 Hs1 Hs2 Hs3]
    · iapply (slots_started X c) $$ [Hs0 Hs1 Hs2 Hs3]
      isplitl [Hs0]; · iexact Hs0
      isplitl [Hs1]; · iexact Hs1
      isplitl [Hs2]; · iexact Hs2
      iexact Hs3
    isplitl [HW]; · iexact HW
    isplitl [HU]; · iexact HU
    iexact HO
  iapply (wp_job_send X W κ c (k := 0) (by decide) k0_pay1 (fun _ _ => rfl) (peer_of c (k0_dev2_lt c) (k0_dev2_eq c)) (off_peer c (k := 4) (by decide) (k0_off2_eq c 0))) $$ H
  iintro H
  iapply (wp_job_send X W κ c (k := 1) (by decide) k0_pay2 (fun _ _ => rfl) (peer_of c (k0_dev3_lt c) (k0_dev3_eq c)) (off_peer c (k := 5) (by decide) (k0_off2_eq c 1))) $$ H
  iintro H
  iapply (wp_job_send X W κ c (k := 2) (by decide) k0_pay3 (fun _ _ => rfl) (peer_of c (k0_dev4_lt c) (k0_dev4_eq c)) (off_peer c (k := 6) (by decide) (k0_off2_eq c 2))) $$ H
  iintro H
  iapply (wp_job_send X W κ c (k := 3) (by decide) (fun v w => k0_pay5 (k0_pay4 v w)) (fun _ _ => rfl) (peer_of c (k0_dev5_lt c) (k0_dev5_eq c)) (off_peer c (k := 7) (by decide) (k0_off2_eq c 3))) $$ H
  iintro H
  iapply (wp_job_send X W κ c (k := 4) (by decide) k0_pay6 (fun _ _ => rfl) (peer_of c (k0_dev6_lt c) (k0_dev6_eq c)) (off_own c (k := 8) (by decide) (by decide) (k0_off3_eq c 0))) $$ H
  iintro H
  iapply (wp_job_send X W κ c (k := 5) (by decide) k0_pay7 (fun _ _ => rfl) (peer_of c (k0_dev7_lt c) (k0_dev7_eq c)) (off_own c (k := 9) (by decide) (by decide) (k0_off3_eq c 1))) $$ H
  iintro H
  iapply (wp_job_send X W κ c (k := 6) (by decide) k0_pay8 (fun _ _ => rfl) (peer_of c (k0_dev8_lt c) (k0_dev8_eq c)) (off_own c (k := 10) (by decide) (by decide) (k0_off3_eq c 2))) $$ H
  iintro H
  iapply (wp_job_send X W κ c (k := 7) (by decide) k0_pay9 (fun _ _ => rfl) (peer_of c (k0_dev9_lt c) (k0_dev9_eq c)) (off_own c (k := 11) (by decide) (by decide) (k0_off3_eq c 3))) $$ H
  iintro H
  unfold Sending
  icases H with ⟨-, HS, HW, HU, HO⟩
  ihave Hob := (chunks_open c outM (View.set_whole _)) $$ Hout
  ihave HV := (upto_zero (OutPre (F := F) c) (OutMid X W c)) $$ [Hob]
  · unfold OutPre; iexact Hob
  ihave H := (show iprop(Ctx X W κ ∗ Slots X c 8 ∗ WB W c ∗ Upto (OutPre (F := F) c) (OutMid X W c) 0 ∗ owesE F c (due c 8)) ⊢ Owning X W κ c 0 from .rfl) $$ [HS HW HV HO]
  · isplitr; · iexact HC
    isplitl [HS]; · iexact HS
    isplitl [HW]; · iexact HW
    isplitl [HV]; · iexact HV
    iexact HO
  iapply (wp_job_own X W κ c (j := 0) (by decide) k0_pay10 (fun _ _ => rfl) (off_own c (k := 12) (by decide) (by decide) (k0_off4_eq c 0))) $$ H
  iintro H
  iapply (wp_job_own X W κ c (j := 1) (by decide) k0_pay11 (fun _ _ => rfl) (off_own c (k := 13) (by decide) (by decide) (k0_off4_eq c 1))) $$ H
  iintro H
  iapply (wp_job_own X W κ c (j := 2) (by decide) k0_pay12 (fun _ _ => rfl) (off_own c (k := 14) (by decide) (by decide) (k0_off4_eq c 2))) $$ H
  iintro H
  iapply (wp_job_own X W κ c (j := 3) (by decide) (fun v w => k0_pay14 (k0_pay13 v w)) (fun _ _ => rfl) (off_own c (k := 15) (by decide) (by decide) (k0_off4_eq c 3))) $$ H
  iintro H
  iapply (wp_job_last X W κ c (j := 4) (by decide) (by decide) k0_pay15 (fun _ _ => rfl)) $$ H
  iintro H
  iapply (wp_job_last X W κ c (j := 5) (by decide) (by decide) k0_pay16 (fun _ _ => rfl)) $$ H
  iintro H
  iapply (wp_job_last X W κ c (j := 6) (by decide) (by decide) k0_pay17 (fun _ _ => rfl)) $$ H
  iintro H
  iapply (wp_job_last X W κ c (j := 7) (by decide) (by decide) k0_pay18 (fun _ _ => rfl)) $$ H
  iintro H
  unfold Owning
  icases H with ⟨-, HS, HW, HV, HO⟩
  ihave HV := (fold_ready X W c) $$ [Hrc Hra HV]
  · isplitl [Hrc]; · iexact Hrc
    isplitl [Hra]; · iexact Hra
    iexact HV
  ihave H := (show iprop(Ctx X W κ ∗ Upto (FoldPre X W c) (FoldPost X W c) 0 ∗ owesE F c (due c 8)) ⊢ Folding X W κ c 0 from .rfl) $$ [HV HO]
  · isplitr; · iexact HC
    isplitl [HV]; · iexact HV
    iexact HO
  iapply (wp_fold X W κ c (k := 0) (by decide) k0_pay19 (fun _ _ => rfl)) $$ H
  iintro H
  iapply (wp_fold X W κ c (k := 1) (by decide) k0_pay20 (fun _ _ => rfl)) $$ H
  iintro H
  iapply (wp_fold X W κ c (k := 2) (by decide) k0_pay21 (fun _ _ => rfl)) $$ H
  iintro H
  iapply (wp_fold X W κ c (k := 3) (by decide) (fun v w => k0_pay24 (k0_pay22 v) (k0_pay23 w)) (fun _ _ => rfl)) $$ H
  iintro H
  iapply (wp_fold X W κ c (k := 4) (by decide) k0_pay25 (fun _ _ => rfl)) $$ H
  iintro H
  iapply (wp_fold X W κ c (k := 5) (by decide) k0_pay26 (fun _ _ => rfl)) $$ H
  iintro H
  iapply (wp_fold X W κ c (k := 6) (by decide) k0_pay27 (fun _ _ => rfl)) $$ H
  iintro H
  iapply (wp_fold X W κ c (k := 7) (by decide) k0_pay28 (fun _ _ => rfl)) $$ H
  iintro H
  unfold Folding
  icases H with ⟨-, HV, HO⟩
  ihave HU := (drain_ready (F := F) c) $$ [HU Hsa]
  · isplitl [HU]; · iexact HU
    iexact Hsa
  ihave H := (show iprop(Ctx X W κ ∗ Upto (DrainPre (F := F) c) (DrainPost c) 0 ∗ owesE F c (due c 8)) ⊢ Draining X W κ c 0 from .rfl) $$ [HU HO]
  · isplitr; · iexact HC
    isplitl [HU]; · iexact HU
    iexact HO
  iapply (wp_drain X W κ c (k := 0) (by decide)) $$ H
  iintro H
  iapply (wp_drain X W κ c (k := 1) (by decide)) $$ H
  iintro H
  iapply (wp_drain X W κ c (k := 2) (by decide)) $$ H
  iintro H
  iapply (wp_drain X W κ c (k := 3) (by decide)) $$ H
  iintro H
  iapply (wp_drain X W κ c (k := 4) (by decide)) $$ H
  iintro H
  iapply (wp_drain X W κ c (k := 5) (by decide)) $$ H
  iintro H
  iapply (wp_drain X W κ c (k := 6) (by decide)) $$ H
  iintro H
  iapply (wp_drain X W κ c (k := 7) (by decide)) $$ H
  iintro H
  unfold Draining
  icases H with ⟨-, HU, HO⟩
  ihave HU := (drain_done (F := F) c) $$ HU
  icases HU with ⟨Hsz, Hsb⟩
  ihave HV := (fold_done X W c) $$ HV
  icases HV with ⟨Hrz, Hrb, Hob⟩
  ihave HS := (slots_close X c) $$ [Hxr HS]
  · isplitl [Hxr]; · iexact Hxr
    iexact HS
  icases HS with ⟨Hm0, Hx, Hvs⟩
  ihave Hm1 := (weights_close W c) $$ HW
  haveI : Nonempty (Buf (Elt F) (sendM.view.loc (c : Thread nD τ))) := ⟨fun _ => (FloatOps.ofBits .f32 0 : F .f32)⟩
  haveI : Nonempty (Buf (Elt F) (recvM.view.loc (c : Thread nD τ))) := ⟨fun _ => (FloatOps.ofBits .f32 0 : F .f32)⟩
  ihave Hm2 := (chunks_close c sendM (View.set_whole _)) $$ Hsb
  ihave Hm3 := (chunks_close c recvM (View.set_whole _)) $$ Hrb
  ihave Hout := (out_close X W c) $$ Hob
  unfold Runs
  rw [wp_ret]
  imodintro
  unfold Done Mem Arr Sems
  rw [due_last]
  isplitr [Hout HO]; swap
  · isplitl [Hout]; · iexact Hout
    iexact HO
  isplitl [Hm0 Hm1 Hm2 Hm3]
  · isplitl [Hm0]; · iexact Hm0
    isplitl [Hm1]; · iexact Hm1
    isplitl [Hm2]; · iexact Hm2
    iexact Hm3
  isplitl [Hw Hx]
  · isplitl [Hw]; · iexact Hw
    iexact Hx
  isplitl [Hvw Hvs]
  · isplitl [Hvw]; · iexact Hvw
    iexact Hvs
  isplitl [Hsz]; · iexact Hsz
  isplitl [Hrz]; · iexact Hrz
  iexact Hbz

end Cert.OProj

end
-- ==== Proof.Fund.lean ====
/-
  The exchange's cells at the launch: their invariants made, each device's tokens and credits dealt, and the copies'
  cells opened when the kernel starts.
-/
module

public import proofs.«01_k».proof.Proof.Ends
public import Idealize.ShloMosaic.Lib.Pipeline.Launch

@[expose] public section

noncomputable section

namespace Cert.OProj

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → main_v1.ty.Contents (Elt F)) (W : Dev nD → main_arg1.ty.Contents (Elt F))
variable (κ : GSem nD τ sig → ℕ) (c : Dev nD)

/-! ## The cells, as sets -/

/-- The semaphores `s 0`, …, `s (n - 1)` of every device. -/
def fam (s : ℕ → SemLoc sig) (n : ℕ) : Finset (GSem nD τ sig) :=
  Finset.univ.biUnion fun d : Dev nD => (Finset.range n).image fun i => ((d : Thread nD τ), s i)

theorem mem_fam {s : ℕ → SemLoc sig} {n : ℕ} {g : GSem nD τ sig} (h : g ∈ fam s n) : ∃ i < n, g.2 = s i := by
  obtain ⟨d, -, h⟩ := Finset.mem_biUnion.mp h
  obtain ⟨i, hi, rfl⟩ := Finset.mem_image.mp h
  exact ⟨i, Finset.mem_range.mp hi, rfl⟩

/-- A separating product over such a set is one over the devices and the numbers. -/
theorem big_fam {s : ℕ → SemLoc sig} {n : ℕ} (hs : ∀ {i j : ℕ}, i < n → j < n → s i = s j → i = j) (Φ : GSem nD τ sig → sProp 𝕄) :
    bigSep (fam s n) Φ = bigSep Finset.univ fun d : Dev nD => bigSep (Finset.range n) fun i => Φ ((d : Thread nD τ), s i) := by
  unfold fam
  rw [bigSep_biUnion_eq _ _ _ fun d _ d' _ hne => Finset.disjoint_left.mpr fun g hg hg' => by
    obtain ⟨i, -, rfl⟩ := Finset.mem_image.mp hg
    obtain ⟨j, -, e⟩ := Finset.mem_image.mp hg'
    exact hne (congrArg (fun g : GSem nD τ sig => g.1.1) e).symm]
  exact bigSep_congr fun d _ => bigSep_image_of_injOn
    (fun i hi j hj e => hs (Finset.mem_range.mp hi) (Finset.mem_range.mp hj) (congrArg Prod.snd e)) Φ

theorem send_inj {i j : ℕ} (hi : i < 8) (hj : j < 8) (h : (SemLoc.dma (sendSem i) : SemLoc sig) = .dma (sendSem j)) : i = j := by
  have e := congrArg role h; rw [role_send hi, role_send hj] at e; exact Role.send.inj e
theorem recv_inj {i j : ℕ} (hi : i < 8) (hj : j < 8) (h : (SemLoc.dma (recvSem i) : SemLoc sig) = .dma (recvSem j)) : i = j := by
  have e := congrArg role h; rw [role_recv hi, role_recv hj] at e; exact Role.recv.inj e

/-- The barrier cells; -/
def bars : Finset (GSem nD τ sig) := fam (fun _ => .reg barS) 1
/-- the cells of the copies leaving; -/
def sends : Finset (GSem nD τ sig) := fam (fun i => .dma (sendSem i)) 8
/-- the cells of the copies landing. -/
def recvs : Finset (GSem nD τ sig) := fam (fun i => .dma (recvSem i)) 8

theorem disjoint_sends_recvs : Disjoint sends recvs := Finset.disjoint_left.mpr fun g h h' => by
  obtain ⟨i, hi, e⟩ := mem_fam h
  obtain ⟨j, hj, e'⟩ := mem_fam h'
  have e := congrArg role (e.symm.trans e'); rw [role_send hi, role_recv hj] at e; exact nomatch e
theorem disjoint_bars : Disjoint bars (sends ∪ recvs) := Finset.disjoint_left.mpr fun g h h' => by
  obtain ⟨i, hi, e⟩ := mem_fam h
  rcases Finset.mem_union.mp h' with h' | h'
  · obtain ⟨j, hj, e'⟩ := mem_fam h'
    exact nomatch e.symm.trans e'
  · obtain ⟨j, hj, e'⟩ := mem_fam h'
    exact nomatch e.symm.trans e'

theorem big_bars (Φ : GSem nD τ sig → sProp 𝕄) : bigSep bars Φ = bigSep Finset.univ fun d : Dev nD => Φ (barCell d) := by
  unfold bars
  rw [big_fam fun hi hj _ => by omega]
  exact bigSep_congr fun d _ => by rw [Finset.range_one, bigSep_singleton]
theorem big_sends (Φ : GSem nD τ sig → sProp 𝕄) :
    bigSep sends Φ = bigSep Finset.univ fun d : Dev nD => bigSep (Finset.range 8) fun i => Φ (sendCell d i) := by
  unfold sends; exact big_fam send_inj Φ
theorem big_recvs (Φ : GSem nD τ sig → sProp 𝕄) :
    bigSep recvs Φ = bigSep Finset.univ fun d : Dev nD => bigSep (Finset.range 8) fun i => Φ (recvCell d i) := by
  unfold recvs; exact big_fam recv_inj Φ
theorem big_copies (Φ : GSem nD τ sig → sProp 𝕄) : bigSep (sends ∪ recvs) Φ = iprop(bigSep sends Φ ∗ bigSep recvs Φ) :=
  bigSep_union disjoint_sends_recvs
theorem big_cells (Φ : GSem nD τ sig → sProp 𝕄) :
    bigSep (bars ∪ (sends ∪ recvs)) Φ = iprop(bigSep bars Φ ∗ bigSep sends Φ ∗ bigSep recvs Φ) := by
  rw [← big_copies]; exact bigSep_union disjoint_bars

/-- The one duty of the one round of every cell. -/
def duties : Finset (GSem nD τ sig × ℕ × Unit) := (bars ∪ (sends ∪ recvs)).image fun g => (g, 0, ())

theorem big_duties (Φ : GSem nD τ sig × ℕ × Unit → sProp 𝕄) :
    bigSep duties Φ = bigSep (bars ∪ (sends ∪ recvs)) fun g => Φ (g, 0, ()) := by
  unfold duties
  exact bigSep_image_of_injOn (fun _ _ _ _ e => congrArg Prod.fst e) Φ

/-- Each device's thing is its peer's peer's. -/
theorem big_peer (Φ : Dev nD → sProp 𝕄) : bigSep Finset.univ Φ = bigSep Finset.univ fun c : Dev nD => Φ (peer c) :=
  bigSep_univ_equiv peerEquiv Φ

/-! ## What the launch deals each device -/

/-- A device's part of the exchange before the kernel starts, apart from its credits: the copies' cells are not yet
    open. -/
def Share (F : FTy → Type) (c : Dev nD) : sProp (MT nD τ sig Unit (Elt F) ℕ UU ℕ) :=
  iprop((atPos ER (barCell c) 0 ∅ 0 ∗ dutyTok ER (barCell (peer c)) 0 () ∗ reached ER (barCell (peer c)) 0)
    ∗ (bigSep (Finset.range 8) fun i => openTok ER (sendCell c i))
    ∗ (bigSep (Finset.range 8) fun i => dutyTok ER (sendCell c i) 0 ())
    ∗ (bigSep (Finset.range 8) fun i => openTok ER (recvCell c i))
    ∗ (bigSep (Finset.range 8) fun i => dutyTok ER (recvCell (peer c) i) 0 ()))

/-- A device's credits at the launch: its peer owes its barrier one unit, and each of its landing cells a copy's. -/
def Creds (F : FTy → Type) (c : Dev nD) : sProp (MT nD τ sig Unit (Elt F) ℕ UU ℕ) :=
  iprop(cred (tallyAt (barCell c) () 1) ∗ bigSep (Finset.range 8) fun i => cred (tallyAt (recvCell c i) () NN))

/-- The dues of all devices are these credits. -/
theorem creds : Pipeline.launchCred due₀ c ⊢ Creds F c := by
  unfold Creds
  rw [show (due₀ : Dev nD → CellTallies nD τ sig Unit)
      = fun d => (∑ i ∈ Finset.range 8, tallyAt (recvCell (peer d) i) () NN) + tallyAt (barCell (peer d)) () 1 from
    funext fun d => by unfold due₀ due; rw [Finset.range_eq_Ico]]
  rw [Pipeline.launchCred_add, Pipeline.launchCred_sum]
  have h1 := Pipeline.launchCred_tallyAt (τ := τ) (Val := Elt F) (Name := ℕ) (U := UU) (Lvl := ℕ) (.reg barS) peer peer peer_peer peer_peer () 1 c
  have h2 : (bigSep (Finset.range 8) fun i => Pipeline.launchCred (fun d => tallyAt (recvCell (peer d) i) () NN) c)
      ⊢ (bigSep (Finset.range 8) fun i => cred (tallyAt (recvCell c i) () NN) : sProp 𝕄) :=
    bigSep_mono fun i _ => Pipeline.launchCred_tallyAt (.dma (recvSem i)) peer peer peer_peer peer_peer () NN c
  iintro ⟨H2, H1⟩
  isplitl [H1]
  · iapply h1; iexact H1
  · iapply h2; iexact H2

/-- The invariants of all cells, with the levels, are the common part of the proof. -/
theorem ctx_intro :
    iprop(levAts L lv ∗ bigSep (bars ∪ (sends ∪ recvs)) fun g => cellInv ER (Rd X W) (κ g) g) ⊢ Ctx X W κ := by
  unfold Ctx
  rw [big_cells, big_bars, big_sends, big_recvs]

/-- From the launch's element and the barriers' counters: the cells' invariants, and every device's share. -/
theorem share_out :
    iprop(levAts L lv ∗ (bigSep Finset.univ fun c : Dev nD => semVal (barCell c) 0) ∗ BI.own (ER (launchOf bars (sends ∪ recvs) duties)))
      ⊢ |={Set.univ}=> bigSep Finset.univ fun c : Dev nD => iprop((∃ κ, Ctx X W κ) ∗ Share F c) := by
  have hshare : iprop((bigSep Finset.univ fun c : Dev nD => atPos ER (barCell c) 0 ∅ 0)
        ∗ (bigSep Finset.univ fun c : Dev nD => dutyTok ER (barCell (peer c)) 0 ())
        ∗ (bigSep Finset.univ fun c : Dev nD => reached ER (barCell (peer c)) 0)
        ∗ (bigSep Finset.univ fun c : Dev nD => bigSep (Finset.range 8) fun i => openTok ER (sendCell c i))
        ∗ (bigSep Finset.univ fun c : Dev nD => bigSep (Finset.range 8) fun i => dutyTok ER (sendCell c i) 0 ())
        ∗ (bigSep Finset.univ fun c : Dev nD => bigSep (Finset.range 8) fun i => openTok ER (recvCell c i))
        ∗ (bigSep Finset.univ fun c : Dev nD => bigSep (Finset.range 8) fun i => dutyTok ER (recvCell (peer c) i) 0 ()))
      ⊢ (bigSep Finset.univ fun c : Dev nD => Share F c : sProp 𝕄) := by
    unfold Share
    simp only [bigSep_sep']
    iintro ⟨H1, H2, H3, H4, H5, H6, H7⟩
    isplitl [H1 H2 H3]
    · isplitl [H1]; · iexact H1
      isplitl [H2]; · iexact H2
      iexact H3
    isplitl [H4]; · iexact H4
    isplitl [H5]; · iexact H5
    isplitl [H6]; · iexact H6
    iexact H7
  have hctx : iprop((∃ κ, Ctx X W κ) ∗ bigSep Finset.univ fun c : Dev nD => Share F c)
      ⊢ bigSep Finset.univ fun c : Dev nD => iprop((∃ κ, Ctx X W κ) ∗ Share F c) :=
    bigSep_with_persistent fun c _ => .rfl
  have hfund := fund_launch ER (Rd X W) (S := bars) (Sd := sends ∪ recvs) disjoint_bars (fun g _ => unitless_not X W g) duties (avoid := ∅) (Es := Set.univ)
  rw [big_bars, big_bars, big_bars, big_duties, big_cells, big_bars, big_sends, big_recvs, big_copies, big_sends, big_recvs,
    big_peer fun d => reached ER (barCell d) 0, big_peer fun d => dutyTok ER (barCell d) 0 (),
    big_peer fun d => bigSep (Finset.range 8) fun i => dutyTok ER (recvCell d i) 0 ()] at hfund
  iintro ⟨#HL, HS, HU⟩
  imod hfund $$ [HS HU] with ⟨%κ, -, HC, H3, H1, ⟨H4, H6⟩, H2, H5, H7⟩
  · isplitl [HS] <;> iassumption
  imodintro
  iapply hctx
  isplitl [HC]
  · iexists κ
    iapply (ctx_intro X W κ)
    isplitr; · iexact HL
    iexact HC
  iapply hshare
  isplitl [H1]; · iexact H1
  isplitl [H2]; · iexact H2
  isplitl [H3]; · iexact H3
  isplitl [H4]; · iexact H4
  isplitl [H5]; · iexact H5
  isplitl [H6]; · iexact H6
  iexact H7

/-- The copies' cells opened: with their counters, a device's share and credits are its part of the exchange. -/
theorem ghost_open :
    iprop((∃ κ, Ctx X W κ) ∗ Share F c ∗ Creds F c ∗ (bigSep (Finset.range 8) fun i => semVal (sendCell c i) 0)
        ∗ bigSep (Finset.range 8) fun i => semVal (recvCell c i) 0)
      ⊢ |={Set.univ}=> iprop((∃ κ, Ctx X W κ) ∗ Ghost F c) := by
  have one (f : ℕ → GSem nD τ sig) (κ : GSem nD τ sig → ℕ) (hf : ∀ {i : ℕ}, i < 8 → Ctx X W κ ⊢ (cellInv ER (Rd X W) (κ (f i)) (f i) : sProp 𝕄)) :
      iprop(Ctx X W κ ∗ bigSep (Finset.range 8) fun i => iprop(openTok ER (f i) ∗ semVal (f i) 0))
        ⊢ |={Set.univ}=> iprop((bigSep (Finset.range 8) fun i => atPos ER (f i) 0 ∅ 0) ∗ bigSep (Finset.range 8) fun i => reached ER (f i) 0) := by
    rw [← bigSep_sep']
    refine (bigSep_with_persistent (Ψ := fun i => iprop(|={Set.univ}=> (atPos ER (f i) 0 ∅ 0 ∗ reached ER (f i) 0))) fun i hi => ?_).trans (bigSep_fupd _ _)
    exact (sep_mono_left (hf (Finset.mem_range.mp hi))).trans (cell_open ER (Rd X W) (Set.mem_univ _))
  unfold Share Creds Ghost
  iintro ⟨⟨%κ, #HC⟩, ⟨⟨H1, H2, H3⟩, H4, H5, H6, H7⟩, ⟨H8, H9⟩, Hs, Hr⟩
  imod (one (sendCell c) κ (fun hi => ctx_send X W κ c hi)) $$ [H4 Hs] with ⟨Ha, Hb⟩
  · isplitr; · iexact HC
    rw [bigSep_sep']
    isplitl [H4] <;> iassumption
  imod (one (recvCell c) κ (fun hi => ctx_recv X W κ c hi)) $$ [H6 Hr] with ⟨Hd, He⟩
  · isplitr; · iexact HC
    rw [bigSep_sep']
    isplitl [H6] <;> iassumption
  imodintro
  isplitr; · iexists κ; iexact HC
  isplitl [H1 H2 H3 H8]
  · isplitl [H8]; · iexact H8
    isplitl [H1]; · iexact H1
    isplitl [H2]; · iexact H2
    iexact H3
  isplitl [Ha]; · iexact Ha
  isplitl [Hb]; · iexact Hb
  isplitl [H5]; · iexact H5
  isplitl [Hd]; · iexact Hd
  isplitl [He]; · iexact He
  isplitl [H7]; · iexact H7
  iexact H9

end Cert.OProj

end
-- ==== Proof.Launch.lean ====
/-
  The kernel's launch: the reshape before it, the kernel as a region of the program, and the run of the whole program.
-/
module

public import proofs.«01_k».proof.Proof.Body
public import proofs.«01_k».proof.Proof.Fund
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.CollectiveSegs

@[expose] public section

noncomputable section

namespace Cert.OProj

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The proof data -/

/-- The buffers as launched. -/
abbrev V₀ (c : Dev nD) : Valuation τ sig (Elt F) := fun b => m (c, b)
/-- The activations of each device, as rows, -/
abbrev Xs (c : Dev nD) : main_v1.ty.Contents (Elt F) := V m c main_v1
/-- and its weights. -/
abbrev Ws (c : Dev nD) : main_arg1.ty.Contents (Elt F) := V m c main_arg1

abbrev adm : (p : Fin 1) → (pcfgs (F := F) p).Adm := fun p => (cfgs p).toPCfg_adm

/-- The one grid point: before it the device holds what the kernel starts from and owes its peer everything, after it
    what the kernel leaves, and nothing is owed. -/
def dats (_ : Fin 1) (c : Dev nD) : Dat τ (Elt F) Unit ℕ UU ℕ cfg0 c where
  A w := V m c (Pipeline.arrRef spec0 w)
  after w _ := match w with
    | ⟨0, _⟩ => outF (Xs m) (Ws m) c
  Φ t := if t.val = 0 then Start (Xs m) (Ws m) c else Done (Xs m) (Ws m) c
  q _ := fullShare
  owed t := if t.val = 0 then due₀ c else 0

theorem A_eq (w : Fin cfg0.W) : (dats m 0 c).A w = V m c (Pipeline.arrRef spec0 w) := by dsimp only [dats]

theorem owns_memory (b : Ref sig .tc) (Z : b.ty.Contents (Elt F)) :
    (owns (Ix := Unit) (Name := ℕ) (U := UU) (Lvl := ℕ) (c : Thread nD τ) (Memref.whole b) fullShare Z : sProp 𝕄)
      = iprop(∃ f : Buf (Elt F) ((c : Thread nD τ).loc b), ⌜f = Z⌝ ∗ (((c : Thread nD τ).loc b) ↦{fullShare} f)) := by
  unfold owns; simp only [Memref.view_whole, View.read_whole, View.set_whole]

set_option maxRecDepth 65536 in
/-- The kernel's body does what the proof data say. -/
theorem body_obligation : BodyObligation (dats m 0 c) (defs₀ (F := F)) 𝒱₀ () Set.univ := fun t => by
  obtain rfl := fin_N0 t
  rw [bigSep_W0, bigSep_W0]
  simp only [owns_memory]
  rw [show (dats m 0 c).Φ t0_0.castSucc = Start (Xs m) (Ws m) c from rfl, show (dats m 0 c).Φ t0_0.succ = Done (Xs m) (Ws m) c from rfl]
  unfold Dat.owesAt Pipeline.owesWithin
  rw [show (dats m 0 c).owed t0_0.castSucc = due₀ c from rfl, show (dats m 0 c).owed t0_0.succ = 0 from rfl]
  refine BIBase.Entails.trans (Q := iprop(Start (Xs m) (Ws m) c ∗ (∃ f, outM.view.loc (c : Thread nD τ) ↦{fullShare} f) ∗ owesE F c (due₀ c))) ?_
    ((run_body (Xs m) (Ws m) c).trans (wp_mono _ _ _ fun _ => ?_))
  · unfold owesE
    iintro ⟨HΦ, ⟨%B, -, HO⟩, ⟨%d0, %f0, -, H0⟩⟩
    isplitl [HΦ]; · iexact HΦ
    isplitl [H0]; · iexists f0; iexact H0
    iexists B; iexact HO
  · unfold owesE
    iintro ⟨HΦ, H0, ⟨%B, HO⟩⟩
    isplitl [HΦ]; · iexact HΦ
    isplitl [HO]
    · iexists B; isplitr; · ipureintro; exact fun _ _ => Or.inl trivial
      iexact HO
    iexists _; isplitr; swap; (· iexact H0); ipureintro; dsimp only [dats]

/-! ## The kernel's semaphores -/

/-- The kernel's own semaphores. -/
def osem : (Fin 1 ⊕ Fin 4) ⊕ (Fin 8 ⊕ Fin 8) → SemLoc sig
  | .inl (.inl _) => .dma wSem
  | .inl (.inr s) => .dma (slotSem s.val)
  | .inr (.inl i) => .dma (sendSem i.val)
  | .inr (.inr i) => .dma (recvSem i.val)

theorem osem_facts : Pipeline.OwnSemFacts spec0 osem := by decide +kernel

/-- All of them at zero. -/
theorem ownSems_eq :
    (Pipeline.ownSems0 (Ix := Unit) (Name := ℕ) (U := UU) (Lvl := ℕ) (Val := Elt F) (τ := τ) osem c : sProp 𝕄)
      = iprop(Sems F c ∗ (bigSep (Finset.range 8) fun i => semVal (sendCell c i) 0) ∗ bigSep (Finset.range 8) fun i => semVal (recvCell c i) 0) := by
  unfold Pipeline.ownSems0 Sems
  rw [bigSep_univ_sum, bigSep_univ_sum, bigSep_univ_sum, bigSep_univ_of_subsingleton (0 : Fin 1),
    Ring.bigSep_fin_eq_range 4 (fun s => semVal ((c : Thread nD τ), osem (.inl (.inr s))) 0) (fun s => semVal ((c : Thread nD τ), .dma (slotSem s)) 0) fun _ _ => rfl,
    Ring.bigSep_fin_eq_range 8 (fun i => semVal ((c : Thread nD τ), osem (.inr (.inl i))) 0) (fun i => semVal (sendCell c i) 0) fun _ _ => rfl,
    Ring.bigSep_fin_eq_range 8 (fun i => semVal ((c : Thread nD τ), osem (.inr (.inr i))) 0) (fun i => semVal (recvCell c i) 0) fun _ _ => rfl]
  rfl

theorem unscoped_eq : (unscopedSems0 c : sProp 𝕄) = semVal (barCell c) 0 := by
  unfold unscopedSems0
  rw [bigSep_eq_bigSepL_of_eq [SemLoc.reg barS] (by decide) (by decide)]
  rfl

/-! ## The segments -/

/-- What rides beside the buffers up to the kernel. -/
def Ride : sProp 𝕄 := iprop((∃ κ, Ctx (Xs m) (Ws m) κ) ∗ Share F c ∗ Creds F c ∗ owesE F c (due₀ c))

/-- The reshape of the activations, run before the kernel. -/
def seg0 : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V₀ m) (Ride m)

/-- What the kernel leaves for the end. -/
def End : sProp 𝕄 :=
  iprop((dats m 0 c).arrays ((dats m 0 c).arrAt · cfg0.N) ∗ (((c : Thread nD τ).loc main_arg0) ↦{fullShare} V m c main_arg0)
    ∗ Arr (Xs m) (Ws m) c ∗ semVal (barCell c) 0)

theorem pref_none : (iprop(emp) : sProp 𝕄) ⊢ Pipeline.prefHeld (pcfgs (F := F) 0).pre c (fun _ => fullShare) (adm (F := F) 0).1 := by
  unfold Pipeline.prefHeld; rw [show (Finset.univ : Finset (Fin 0)) = ∅ from rfl, BI.bigSep_empty]; exact .rfl

-- the launch lemmas are stated of the region's configuration, which unfolds to this kernel's
set_option backward.isDefEq.respectTransparency.types false in
/-- The kernel: entered with its semaphores at zero, opened as cells of the exchange; left with them at zero again. -/
def reg0 : Pipeline.RegionSeg (pcfgs (F := F)) adm (dats m) () defs₀ 𝒱₀ L lv 0 where
  win := launch0.win.to₀
  block_pos := launch0.block_pos
  stage_whole := launch0.stage_whole
  K := (Fin 1 ⊕ Fin 4) ⊕ (Fin 8 ⊕ Fin 8)
  osem := osem
  ho := osem_facts
  hbody c := (body_obligation m c).loose
  hwaits c := Pipeline.cellsWaits_intro _ (dats m) () 0 c fun w s t => by
    match w, s with
    | ⟨0, _⟩, ⟨0, _⟩ =>
      show (levAts L lv : sProp 𝕄) ⊢ MayWait (c : Thread nD τ) _ () (if t.val = 0 then due₀ c else 0)
      by_cases h : t.val = 0
      · rw [if_pos h]; exact mayWait_due₀ c _ (Nat.le_of_eq rfl)
      · rw [if_neg h, MayWait_zero]; iintro -; iempintro
  pre c := iprop(StableHlo.held (c : Thread nD τ) (Pipeline.ucRefs τ sig) (StableHlo.after hostOps0 (V₀ m c)) ∗ Ride m c)
  post c := iprop(End m c ∗ ∃ B, owes (c : Thread nD τ) (0 : CellTallies nD τ sig Unit) B)
  X c := iprop((∃ κ, Ctx (Xs m) (Ws m) κ) ∗ Ghost F c ∗ Arr (Xs m) (Ws m) c ∗ Sems F c)
  Y c := iprop(Arr (Xs m) (Ws m) c ∗ semVal (barCell c) 0)
  Z c := ((c : Thread nD τ).loc main_arg0) ↦{fullShare} V m c main_arg0
  hentry c := by
    rw [show StableHlo.held (c : Thread nD τ) (Pipeline.ucRefs τ sig) (StableHlo.after hostOps0 (V₀ m c)) = unscopedBufs c (V m c) from
      (Pipeline.unscopedBufs_held c _).symm, ownSems_eq]
    have hsplit := (Pipeline.arrays_of_unscopedBufs (pcfgs (F := F)) adm (dats m) launch0.win launch0.arr_whole c
      ((dats m 0 c).share_full fun _ => rfl) (V m c) (A_eq m c)).trans (sep_mono .rfl (Entails.of_eq (unscopedRest0_eq c (V m c))))
    unfold Ride
    iintro ⟨⟨Hb, HC, HS, Hcr, HO⟩, ⟨Hsem, Hs, Hr⟩, -⟩
    ihave H := hsplit $$ Hb
    icases H with ⟨Ha, H0, H1, H2⟩
    imod (ghost_open (Xs m) (Ws m) c) $$ [HC HS Hcr Hs Hr] with ⟨HC, HG⟩
    · isplitl [HC]; · iexact HC
      isplitl [HS]; · iexact HS
      isplitl [Hcr]; · iexact Hcr
      isplitl [Hs] <;> iassumption
    imodintro
    isplitl [Ha]; · iexact Ha
    isplitr; · iapply (pref_none c); iempintro
    isplitl [HO]
    · unfold owesE Pipeline.Dat.owesAt Pipeline.owesWithin
      icases HO with ⟨%B, HO⟩; iexists B; isplitr; · ipureintro; exact fun _ _ => Or.inl trivial
      iexact HO
    isplitr [H0]
    · isplitl [HC]; · iexact HC
      isplitl [HG]; · iexact HG
      isplitl [H1 H2]
      · unfold Arr; isplitl [H1] <;> iassumption
      iexact Hsem
    iexact H0
  hin c := by
    rw [show (dats m 0 c).Φ 0 = Start (Xs m) (Ws m) c from rfl, scopedRest0_eq]
    unfold Start Mem
    iintro ⟨⟨HC, HG, HA, HS⟩, -, HM⟩
    isplitl [HC]; · iexact HC
    isplitl [HG]; · iexact HG
    isplitl [HM]; · iexact HM
    isplitl [HA] <;> iassumption
  hout c := by
    rw [show (dats m 0 c).Φ (Fin.last cfg0.N) = Done (Xs m) (Ws m) c from rfl, scopedRest0_eq, ownSems_eq]
    unfold Done Mem
    iintro ⟨HM, HA, HS, Hs, Hr, Hb⟩
    isplitl [HA Hb]; · isplitl [HA] <;> iassumption
    isplitr [HM]
    · isplitl [HS]; · iexact HS
      isplitl [Hs] <;> iassumption
    iexact HM
  hexit c := by
    unfold End
    iintro ⟨Ha, HO, ⟨HA, Hb⟩, HZ⟩
    imodintro
    isplitr [HO]
    · isplitl [Ha]; · iexact Ha
      isplitl [HZ]; · iexact HZ
      isplitl [HA] <;> iassumption
    · unfold Pipeline.Dat.owesAt Pipeline.owesWithin
      icases HO with ⟨%B, -, HO⟩; iexists B; iexact HO

end Cert.OProj

end
-- ==== Proof.Run.lean ====
/-
  The run of the whole program: what each device's result holds when it ends.
-/
module

public import proofs.«01_k».proof.Proof.Launch
public import Idealize.ShloMosaic.Lib.Pipeline.Value

@[expose] public section

noncomputable section

namespace Cert.OProj

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The result's array -/

/-- What device `c`'s result holds after the run. -/
abbrev final (c : Dev nD) : Buf (Elt F) ((c : Thread nD τ).loc main_v2) := outF (Xs m) (Ws m) c

theorem covered (i : S2x512x2048.Idx) : ∃ t : Fin cfg0.N, (cfg0.win 0).flush t = true ∧ i ∈ ((cfg0.win 0).blk t).view.set := by
  refine ⟨t0_0, flush0_0 _, ?_⟩
  show i ∈ ((View.whole main_v2).slice (win0_0.rect t0_0)).set
  rw [View.set_slice_whole, Rect.mem_set_unit]
  have e : ∀ a, win0_0.index t0_0 a * win0_0.size a = 0 ∧ win0_0.xsize (grid0.coords t0_0) a = S2x512x2048.size a := by decide +kernel
  intro a
  show win0_0.index t0_0 a * win0_0.size a ≤ (i a : ℕ) ∧ (i a : ℕ) < win0_0.index t0_0 a * win0_0.size a + win0_0.xsize (grid0.coords t0_0) a
  rw [(e a).1, (e a).2, Nat.zero_add]
  exact ⟨Nat.zero_le _, (i a).isLt⟩

/-- The one block is the whole array. -/
theorem whole_block (Z : S2x512x2048.Idx → Elt F .f32) (t : Fin cfg0.N) :
    (cfg0.win 0).cut (grid0.coords t) Z = (win0_0.blk t).view.read (Elt F) (Z : Buf (Elt F) ((c : Thread nD τ).loc main_v2)) := by
  obtain rfl := fin_N0 t
  funext j
  show Z (win0_0.xinj (grid0.coords t0_0) j) = Z ((win0_0.rect t0_0).emb j)
  congr 1
  funext a
  apply Fin.ext
  have e : ∀ a, win0_0.index t0_0 a * win0_0.size a = 0 := by decide +kernel
  show (j a).val = win0_0.index t0_0 a * win0_0.size a + 1 * (j a).val
  rw [e a]; omega

/-- What the body leaves is what is written back, and it is the whole result. -/
theorem flushed_eq (t : Fin cfg0.N) : (dats m 0 c).flushed 0 t = ((cfg0.win 0).blk t).view.read (Elt F) (final m c) := by
  show (cfg0.win 0).cut (grid0.coords t) ((dats m 0 c).after 0 t) = _
  rw [show (dats m 0 c).after 0 t = outF (Xs m) (Ws m) c by dsimp only [dats]]
  exact whole_block _ t

theorem final_eq : (dats m 0 c).arrAt 0 cfg0.N = final m c :=
  (dats m 0 c).arrAt_eq_of_cover 0 (final m c) (fun t _ => flushed_eq m c t) covered

/-! ## The launch -/

/-- The whole launch element, dealt with the first device's things. -/
def G (F : FTy → Type) (c : Dev nD) : sProp (MT nD τ sig Unit (Elt F) ℕ UU ℕ) :=
  if c = 0 then BI.own (ER (launchOf bars (sends ∪ recvs) duties)) else iprop(emp)

theorem deal_eq : (bigSep Finset.univ (G F) : sProp 𝕄) = BI.own (ER (launchOf bars (sends ∪ recvs) duties)) := by
  rw [bigSep_univ_at _ (0 : Dev nD),
    bigSep_congr (s := Finset.univ.erase 0) (Ψ := fun _ => BI.emp) (fun c hc => by unfold G; rw [if_neg (Finset.ne_of_mem_erase hc)]; rfl),
    BI.bigSep_emp_const]
  unfold G; rw [if_pos rfl]
  exact BI.equiv_iff.mp sep_emp

/-- The launch element: the pipeline's, the exchange's, and no count. -/
def u₀ : UU := (initOf (Pipeline.cells cfgs cellOf_inj) (Pipeline.launchToks cfgs cellOf_inj), (launchOf bars (sends ∪ recvs) duties, 1))

theorem ownU_parts (a : UR sig nD τ) (b : UB) : (ownU ((a, (b, 1)) : UU) : sProp 𝕄) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

/-- The state each device starts @main in. -/
def T₀ : sProp 𝕄 := iprop(StableHlo.held (c : Thread nD τ) (Pipeline.ucRefs τ sig) (V₀ m c) ∗ Ride m c)

/-- From what the launch deals to what each device starts with. -/
theorem init :
    iprop((bigSep Finset.univ fun c : Dev nD => iprop(unscopedBufs c (fun b => m ((c : Thread nD τ).loc b)) ∗ unscopedSems0 c
          ∗ owes (c : Thread nD τ) (due₀ c) ∅ ∗ Pipeline.launchCred due₀ c ∗ prngReg c (ρ c) ∗ G F c)) ∗ levAts L lv)
      ⊢ |={Set.univ}=> bigSep Finset.univ fun c : Dev nD => T₀ m c := by
  have h1 (c : Dev nD) : iprop(unscopedBufs c (fun b => m ((c : Thread nD τ).loc b)) ∗ unscopedSems0 c
        ∗ owes (c : Thread nD τ) (due₀ c) ∅ ∗ Pipeline.launchCred due₀ c ∗ prngReg c (ρ c) ∗ G F c)
      ⊢ (iprop(semVal (barCell c) 0 ∗ G F c
        ∗ StableHlo.held (c : Thread nD τ) (Pipeline.ucRefs τ sig) (V₀ m c) ∗ Creds F c ∗ owesE F c (due₀ c)) : sProp 𝕄) := by
    rw [unscoped_eq, show unscopedBufs c (fun b => m ((c : Thread nD τ).loc b)) = StableHlo.held (c : Thread nD τ) (Pipeline.ucRefs τ sig) (V₀ m c) from
      Pipeline.unscopedBufs_held c (V₀ m c)]
    unfold owesE
    iintro ⟨Hb, Hs, HO, Hc, -, HG⟩
    isplitl [Hs]; · iexact Hs
    isplitl [HG]; · iexact HG
    isplitl [Hb]; · iexact Hb
    isplitl [Hc]; · iapply (creds c); iexact Hc
    iexists ∅; iexact HO
  have h2 (c : Dev nD) : iprop(((∃ κ, Ctx (Xs m) (Ws m) κ) ∗ Share F c)
        ∗ StableHlo.held (c : Thread nD τ) (Pipeline.ucRefs τ sig) (V₀ m c) ∗ Creds F c ∗ owesE F c (due₀ c)) ⊢ T₀ m c := by
    unfold T₀ Ride
    iintro ⟨⟨HC, HS⟩, Hb, Hc, HO⟩
    isplitl [Hb]; · iexact Hb
    isplitl [HC]; · iexact HC
    isplitl [HS]; · iexact HS
    isplitl [Hc] <;> iassumption
  have h3 : (bigSep Finset.univ fun c : Dev nD => iprop(unscopedBufs c (fun b => m ((c : Thread nD τ).loc b)) ∗ unscopedSems0 c
          ∗ owes (c : Thread nD τ) (due₀ c) ∅ ∗ Pipeline.launchCred due₀ c ∗ prngReg c (ρ c) ∗ G F c) : sProp 𝕄)
      ⊢ iprop((bigSep Finset.univ fun c : Dev nD => semVal (barCell c) 0) ∗ bigSep Finset.univ (G F)
        ∗ bigSep Finset.univ fun c : Dev nD => iprop(StableHlo.held (c : Thread nD τ) (Pipeline.ucRefs τ sig) (V₀ m c) ∗ Creds F c ∗ owesE F c (due₀ c))) := by
    rw [← bigSep_sep', ← bigSep_sep']; exact bigSep_mono fun c _ => h1 c
  have h4 : iprop((bigSep Finset.univ fun c : Dev nD => iprop((∃ κ, Ctx (Xs m) (Ws m) κ) ∗ Share F c))
        ∗ bigSep Finset.univ fun c : Dev nD => iprop(StableHlo.held (c : Thread nD τ) (Pipeline.ucRefs τ sig) (V₀ m c) ∗ Creds F c ∗ owesE F c (due₀ c)))
      ⊢ bigSep Finset.univ fun c : Dev nD => T₀ m c := by
    rw [← bigSep_sep']; exact bigSep_mono fun c _ => h2 c
  rw [deal_eq] at h3
  iintro ⟨H, #HL⟩
  ihave H := h3 $$ H
  icases H with ⟨Hs, HG, HR⟩
  imod (share_out (Xs m) (Ws m)) $$ [Hs HG] with HS
  · isplitr; · iexact HL
    isplitl [Hs] <;> iassumption
  imodintro
  iapply h4
  isplitl [HS] <;> iassumption

/-- @main as the reshape and the kernel. -/
abbrev segs : List (Pipeline.Seg (pcfgs (F := F)) adm (dats m) () defs₀ 𝒱₀ L lv) := [.host (seg0 m), .region (reg0 m)]

-- the launch theorem's parameters are found by unifying its conclusion with this one
set_option backward.isDefEq.respectTransparency.types false in
/-- From any memory with every counter at zero: every weakly fair execution of @main on the devices terminates, nothing
    faulting, and every final state has each device's result at `final`, the arguments as launched and every counter at
    zero. -/
theorem run_main : θ_run defs (onTc (τ := τ) (main (F := F))) ⟨m, fun _ => 0, ρ⟩ (fun r =>
    (∀ c : Dev nD, r.2.mem ((c : Thread nD τ).loc main_v2) = final m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  Pipeline.θ_run_regions_kit_sems (pcfgs (F := F)) adm (dats m) () cellOf_inj EP defs₀ 𝒱₀ L lv m ρ main (segs m)
    (fun c Q => by rw [main_segs adm (dats m) () 𝒱₀ L lv (seg0 m) (reg0 m) rfl c])
    (by simp only [Pipeline.Seg.pipes_host, Pipeline.Seg.pipes_region, Pipeline.Seg.pipes_nil]; decide)
    (O₀ := due₀) (hL := L_of_ne) (G := G F) (u₀ := u₀)
    (hu₀ := by
      unfold u₀
      iintro Hu
      ihave H := (ownU_parts _ _) $$ Hu
      icases H with ⟨HP, HX⟩
      imodintro
      isplitl [HP]; · iexact HP
      rw [deal_eq]; iexact HX)
    (T₀ := T₀ m) (Tₙ := End m)
    (hch := ⟨fun _ => .rfl, fun _ => .rfl, fun _ => .rfl⟩)
    (hinit := init m ρ)
    (QY := fun c s => (s.mem ((c : Thread nD τ).loc main_v2) = final m c
        ∧ s.mem ((c : Thread nD τ).loc main_arg0) = m ((c : Thread nD τ).loc main_arg0)
        ∧ s.mem ((c : Thread nD τ).loc main_arg1) = m ((c : Thread nD τ).loc main_arg1))
      ∧ s.sem (barCell c) = 0)
    (hfin := fun c s' => by
      unfold End Arr
      rw [V_main_arg0, show Ws m c = m ((c : Thread nD τ).loc main_arg1) from V_main_arg1 m c]
      iintro ⟨⟨Ha, H0, ⟨H1, -⟩, Hb⟩, HSI⟩
      icombine HSI H0 gives %h0
      icombine HSI H1 gives %h1
      icombine HSI Hb gives %hb
      ihave Hr := (Pipeline.arrays_read (pcfgs (F := F)) adm (dats m) launch0.arr_whole c ((dats m 0 c).share_full fun _ => rfl) _ s') $$ [Ha HSI]
      · isplitl [Ha] <;> iassumption
      icases Hr with ⟨%ha, HSI⟩
      imodintro
      isplitr
      · ipureintro
        exact ⟨⟨(ha 0).trans (final_eq m c), Buf.eq_of_forall_mem_univ h0, Buf.eq_of_forall_mem_univ h1⟩, hb⟩
      iexact HSI)
    (hQ := fun s h hs => ⟨fun c => (h c).1, sem_eq_zero hs fun c sm hsm => by
      have hl : ∀ sm : SemLoc sig, sm.isScoped .tc = false → sm = .reg barS := by decide
      rcases hl sm hsm with rfl
      exact (h c).2⟩)

end Cert.OProj

end
-- ==== Proof.Value.lean ====
/- The kernel's value over the reals: element `(b, r, n)` of device `c`'s result is the sum over the device's 1024
   contracted positions of its own row's products, plus the same sum on its peer, where the row is row `512 y + r` of
   batch `b` and `y` is the device's coordinate on the mesh's second axis. -/
module

public import proofs.«01_k».proof.Proof.Run
public import Idealize.ShloMosaic.Lib.MatmulPlain
public import Idealize.ShloMosaic.Lib.ValueIdx
public import Idealize.ShloMosaic.Lib.ValueLayout
public import Idealize.ShloMosaic.Lib.Pipeline.Value

@[expose] public section

noncomputable section

namespace Cert.OProj

open Cert.KernelIdeal Cert.KernelIdeal.Gen
open Idealize.ShloMosaic Idealize.ShloMosaic.TcCoe Idealize.SL.Sem Idealize.ShloMosaic.ValueIdx
open scoped BigOperators

/-- Device `c`'s coordinate on the mesh's second axis. -/
abbrev half (c : Dev nD) : ℕ := (c.val / 4) % 2
theorem half_lt (c : Dev nD) : half c < 2 := Nat.mod_lt _ (by decide)

/-- One device's share of element `(b, s, n)` of the whole product: the sum over its own contracted positions. -/
def part (x : S2x1024x1024.Idx → EReal) (w : S1024x2048.Idx → EReal) (b : Fin 2) (s : Fin 1024) (n : Fin 2048) : EReal :=
  ∑ k : Fin 1024, x (ix3 b s k) * w (ix2 k n)

/-- The product of one piece of rows with the weights, at an index. -/
theorem piece_apply (v : FVec Ideal S1x128x1024 .f32) (w : FVec Ideal S1024x2048 .f32) (r : Fin 128) (n : Fin 2048) :
    k0_pay1 v w (ix3 (0 : Fin 1) r n) = ∑ k : Fin 1024, v (ix3 (0 : Fin 1) r k) * w (ix2 k n) := by
  unfold k0_pay1
  refine (shapeCast_ab_1ab_apply (a := 128) (b := 2048) _ _ 0 r n).trans ?_
  refine (Ideal.matmul_plain_apply (M := 128) (K := 1024) (N := 2048) none _ w _ r n).trans ?_
  rw [constant_apply, Ideal.ofBits_zero_f32, zero_add]
  exact Finset.sum_congr rfl fun k _ => congrArg (· * w (ix2 k n)) (shapeCast_1ab_ab_apply (a := 128) (b := 1024) v _ r k)

/-- The sum of two products, at an index. -/
theorem add_apply (u v : FVec Ideal S1x128x2048 .f32) (r : Fin 128) (n : Fin 2048) :
    k0_pay19 u v (ix3 (0 : Fin 1) r n) = u (ix3 (0 : Fin 1) r n) + v (ix3 (0 : Fin 1) r n) := by
  unfold k0_pay19
  refine (shapeCast_ab_1ab_apply (a := 128) (b := 2048) _ _ 0 r n).trans ?_
  rw [addf_apply]
  exact congrArg₂ (· + ·) (shapeCast_1ab_ab_apply (a := 128) (b := 2048) u _ r n) (shapeCast_1ab_ab_apply (a := 128) (b := 2048) v _ r n)

variable (X : Dev nD → main_v1.ty.Contents (Elt Ideal)) (W : Dev nD → main_arg1.ty.Contents (Elt Ideal))

/-- Piece `k` of device `c` times its weights, at row `r`: the device's share of the row of its activations at which
    that row of the piece lies. -/
theorem prod_apply (c : Dev nD) (k : ℕ) (r : Fin 128) (n : Fin 2048) (b : Fin 2) (s : Fin 1024)
    (hb : (k / 4) % 2 = b.val)
    (hs : (if k < 8 then 512 * (1 - half c) else 512 * half c) + 128 * (k % 4) + r.val = s.val) :
    prod X W c k (ix3 (0 : Fin 1) r n) = part (X c) (W c) b s n := by
  refine (piece_apply _ _ r n).trans (Finset.sum_congr rfl fun κ _ => congrArg (· * W c (ix2 κ n)) ?_)
  show X c ((srcR c k).emb (ix3 (0 : Fin 1) r κ)) = X c (ix3 b s κ)
  refine congrArg (X c) ?_
  funext a
  apply Fin.ext
  match a with
  | ⟨0, _⟩ => show (k / 4) % 2 + 1 * 0 = b.val; omega
  | ⟨1, _⟩ =>
    show ((if k < 8 then 512 * (1 - half c) else 512 * half c) + 128 * (k % 4)) + 1 * r.val = s.val
    rw [Nat.one_mul]; exact hs
  | ⟨2, _⟩ => show 0 + 1 * κ.val = κ.val; omega

/-- The kernel's result at an index: the device's share and its peer's. -/
theorem outF_apply (c : Dev nD) (b : Fin 2) (r : Fin 512) (n : Fin 2048) (s : Fin 1024) (hs : 512 * half c + r.val = s.val) :
    outF X W c (ix3 b r n) = part (X c) (W c) b s n + part (X (peer c)) (W (peer c)) b s n := by
  have hb := b.isLt
  have hr := r.isLt
  have hy := half_lt c
  have hp : half (peer c) = 1 - half c := peer_y c
  have e : outF X W c (ix3 b r n) = outV X W c (4 * b.val + r.val / 128) (ix3 (0 : Fin 1) ⟨r.val % 128, Nat.mod_lt _ (by decide)⟩ n) := by
    show outV X W c _ _ = outV X W c _ _
    refine congrArg (outV X W c (4 * b.val + r.val / 128)) ?_
    funext a
    match a with
    | ⟨0, _⟩ => rfl
    | ⟨1, _⟩ => rfl
    | ⟨2, _⟩ => rfl
  rw [e]
  refine (add_apply _ _ _ n).trans (congrArg₂ (· + ·) (prod_apply X W c _ _ n b s ?_ ?_) (prod_apply X W (peer c) _ _ n b s ?_ ?_))
  · omega
  · rw [if_neg (by omega)]; show _ + r.val % 128 = _; omega
  · omega
  · rw [if_pos (by omega), hp]; show _ + r.val % 128 = _; omega

variable (m : (ℓ : Loc nD τ sig) → Buf (Elt Ideal) ℓ) (c : Dev nD)

/-- The kernel's activations are the argument with its heads and their lanes laid end to end. -/
theorem Xs_eq : Xs m c = shapeCast S2x1024x1024 (m ((c : Thread nD τ).loc main_arg0)) shapeCasts_S2x1024x16x64_S2x1024x1024 := by
  show StableHlo.after hostOps0 (fun b => m (c, b)) (Proc.devRef .tc main_v1) = _
  after_results <;> rfl

/-- Activations of sixteen heads with the heads and their lanes laid end to end: column `k` is lane `k % 64` of head
    `k / 64`. -/
theorem flat_apply (O : FVec Ideal S2x1024x16x64 .f32) (b : Fin 2) (s : Fin 1024) (k : Fin 1024) :
    shapeCast S2x1024x1024 O shapeCasts_S2x1024x16x64_S2x1024x1024 (ix3 b s k)
      = O (ix4 b s ⟨k.val / 64, by have := k.isLt; omega⟩ ⟨k.val % 64, Nat.mod_lt _ (by decide)⟩) :=
  shapeCast_apply O _ _ _ (by
    rw [Shape.rowMajor_val_three, Shape.rowMajor_val_four]
    show ((b.val * 1024 + s.val) * 16 + k.val / 64) * 64 + k.val % 64 = (b.val * 1024 + s.val) * 1024 + k.val
    omega)

end Cert.OProj

end
-- ==== Proof.Reference.lean ====
/- The reference's value at an index: element `(b, s, n)` is the sum over the 2048 contracted positions of the
   activations' element at head `k / 64`, lane `k % 64`, times the weights' element `(k, n)`. -/
module

public import proofs.«01_k».proof.Proof.Gen.ReferenceIdeal.Run
public import Idealize.ShloMosaic.Lib.MatmulPlain
public import Idealize.ShloMosaic.Lib.ValueIdx
public import Idealize.ShloMosaic.Lib.ValueLayout
public import Idealize.ShloMosaic.Lib.Pipeline.Value

@[expose] public section

noncomputable section

namespace Cert.OProj.Ref

open Cert.ReferenceIdeal Cert.ReferenceIdeal.Gen
open Idealize.ShloMosaic Idealize.ShloMosaic.TcCoe Idealize.SL.Sem Idealize.ShloMosaic.ValueIdx
open scoped BigOperators

/-- The reference's result of activations `O` and weights `A`. -/
def result (O : FVec Ideal S2x1024x32x64 .f32) (A : FVec Ideal S2048x2048 .f32) : FVec Ideal S2x1024x2048 .f32 :=
  Host.dotGeneral dot_S2x1024x2048_S2048x2048_S2x1024x2048_2_0_01_1_n_n none
    (shapeCast S2x1024x2048 O shapeCasts_S2x1024x32x64_S2x1024x2048) A

/-- The product of a stack of matrices with one matrix, at an index, is the sum over the contracted position. -/
theorem dot_apply (L : FVec Ideal S2x1024x2048 .f32) (A : FVec Ideal S2048x2048 .f32) (b : Fin 2) (s : Fin 1024) (n : Fin 2048) :
    Host.dotGeneral (F := Ideal) dot_S2x1024x2048_S2048x2048_S2x1024x2048_2_0_01_1_n_n none L A (ix3 b s n)
      = ∑ k : Fin 2048, L (ix3 b s k) * A (ix2 k n) := by
  show FloatOps.dotGeneral _ none _ L A (ix3 b s n) = _
  rw [Ideal.dotGeneral_apply, ← Equiv.sum_comp (contrEquiv1 dot_S2x1024x2048_S2048x2048_S2x1024x2048_2_0_01_1_n_n 2048 rfl rfl).symm]
  refine Finset.sum_congr rfl fun k _ => ?_
  have hk := contrEquiv1_symm_val dot_S2x1024x2048_S2048x2048_S2x1024x2048_2_0_01_1_n_n 2048 rfl rfl k
  refine congrArg₂ (· * ·) (congrArg L ?_) (congrArg A ?_) <;> (funext a; apply Fin.ext)
  · match a with
    | ⟨0, _⟩ => rfl
    | ⟨1, _⟩ => rfl
    | ⟨2, _⟩ => exact hk
  · match a with
    | ⟨0, _⟩ => exact hk
    | ⟨1, _⟩ => rfl

/-- Activations with the heads and their lanes laid end to end: column `k` is lane `k % 64` of head `k / 64`. -/
theorem flat_apply (O : FVec Ideal S2x1024x32x64 .f32) (b : Fin 2) (s : Fin 1024) (k : Fin 2048) :
    shapeCast S2x1024x2048 O shapeCasts_S2x1024x32x64_S2x1024x2048 (ix3 b s k)
      = O (ix4 b s ⟨k.val / 64, by have := k.isLt; omega⟩ ⟨k.val % 64, Nat.mod_lt _ (by decide)⟩) :=
  shapeCast_apply O _ _ _ (by
    rw [Shape.rowMajor_val_three, Shape.rowMajor_val_four]
    show ((b.val * 1024 + s.val) * 32 + k.val / 64) * 64 + k.val % 64 = (b.val * 1024 + s.val) * 2048 + k.val
    omega)

/-- The reference's result at an index. -/
theorem result_apply (O : FVec Ideal S2x1024x32x64 .f32) (A : FVec Ideal S2048x2048 .f32) (b : Fin 2) (s : Fin 1024) (n : Fin 2048) :
    result O A (ix3 b s n)
      = ∑ k : Fin 2048, O (ix4 b s ⟨k.val / 64, by have := k.isLt; omega⟩ ⟨k.val % 64, Nat.mod_lt _ (by decide)⟩) * A (ix2 k n) :=
  (dot_apply _ A b s n).trans (Finset.sum_congr rfl fun k _ => congrArg (· * A (ix2 k n)) (flat_apply O b s k))

end Cert.OProj.Ref

end
-- ==== Proof.Algebraic.lean ====
/- The kernel's value is the reference's, block by block: the 2048 contracted positions are the 1024 of the devices with
   `y = 0` and the 1024 of those with `y = 1`, a device and its peer hold one half each, and sums of extended reals may be
   taken in either order. -/
module

public import proofs.«01_k».proof.Defs
public import proofs.«01_k».proof.Proof.Value
public import proofs.«01_k».proof.Proof.Reference
public import Idealize.ShloMosaic.Lib.Pointwise.Sums

@[expose] public section

noncomputable section

namespace Cert.OProj

open Cert.KernelIdeal Cert.KernelIdeal.Gen
open Idealize.ShloMosaic hiding ix2 ix3 ix4 eq_ix3
open Idealize.ShloMosaic.TcCoe Idealize.SL.Sem Idealize.ShloMosaic.ValueIdx
open scoped BigOperators

/-- The whole activations. -/
abbrev WholeO := (⟨4, ![2, 1024, 32, 64]⟩ : Shape).Idx → EReal
/-- The whole weights. -/
abbrev WholeW := (⟨2, ![2048, 2048]⟩ : Shape).Idx → EReal

/-- Device `c`'s heads of the whole activations. -/
abbrev headsOf (c : Dev nD) (O : WholeO) : FVec Ideal S2x1024x16x64 .f32 :=
  Layout.blockN ⟨4, ![2, 1024, 16, 64]⟩ ⟨4, ![2, 1024, 32, 64]⟩ (Layout.meshBlock [2, 2, 4] ![[], [], [1], []] c) O
/-- Device `c`'s rows of the whole weights. -/
abbrev weightsOf (c : Dev nD) (A : WholeW) : FVec Ideal S1024x2048 .f32 :=
  Layout.blockN ⟨2, ![1024, 2048]⟩ ⟨2, ![2048, 2048]⟩ (Layout.meshBlock [2, 2, 4] ![[1], []] c) A

/-- One product of the whole contraction. -/
def term (O : WholeO) (A : WholeW) (b : Fin 2) (s : Fin 1024) (n : Fin 2048) (k : Fin 2048) : EReal :=
  O (ix4 b s (⟨k.val / 64, by have := k.isLt; omega⟩ : Fin 32) (⟨k.val % 64, Nat.mod_lt _ (by decide)⟩ : Fin 64)) * A (ix2 k n)

/-- A device's share is the half of the whole contraction that its second coordinate names. -/
theorem part_eq (c : Dev nD) (O : WholeO) (A : WholeW) (b : Fin 2) (s : Fin 1024) (n : Fin 2048) :
    part (shapeCast S2x1024x1024 (headsOf c O) shapeCasts_S2x1024x16x64_S2x1024x1024) (weightsOf c A) b s n
      = ∑ k : Fin 1024, term O A b s n ⟨1024 * half c + k.val, by have := k.isLt; have := half_lt c; omega⟩ := by
  refine Finset.sum_congr rfl fun k _ => ?_
  have hk := k.isLt
  rw [flat_apply]
  refine congrArg₂ (· * ·) (congrArg O ?_) (congrArg A ?_) <;> (funext a; apply Fin.ext)
  · match a with
    | ⟨0, _⟩ => show 0 * 2 + b.val = b.val; omega
    | ⟨1, _⟩ => show 0 * 1024 + s.val = s.val; omega
    | ⟨2, _⟩ => show (half c * 1 + 0) * 16 + k.val / 64 = (1024 * half c + k.val) / 64; omega
    | ⟨3, _⟩ => show 0 * 64 + k.val % 64 = (1024 * half c + k.val) % 64; omega
  · match a with
    | ⟨0, _⟩ => show (half c * 1 + 0) * 1024 + k.val = 1024 * half c + k.val; omega
    | ⟨1, _⟩ => show 0 * 2048 + n.val = n.val; omega

/-- The two halves make the whole contraction, whichever comes first. -/
theorem halves (f : Fin 2048 → EReal) (y y' : ℕ) (hy : y < 2) (hy' : y' = 1 - y) :
    (∑ k : Fin 1024, f ⟨1024 * y + k.val, by have := k.isLt; omega⟩) + ∑ k : Fin 1024, f ⟨1024 * y' + k.val, by have := k.isLt; omega⟩
      = ∑ k : Fin 2048, f k := by
  subst hy'
  rw [Fin.sum_univ_two_halves 1024 1024 rfl f]
  have h0 : ∀ k : Fin 1024, f ⟨1024 * 0 + k.val, by have := k.isLt; omega⟩ = f ⟨k.val, by have := k.isLt; omega⟩ := fun k =>
    congrArg f (Fin.ext (by show 1024 * 0 + k.val = k.val; omega))
  rcases (by omega : y = 0 ∨ y = 1) with rfl | rfl
  · exact congrArg₂ (· + ·) (Finset.sum_congr rfl fun k _ => h0 k) rfl
  · rw [add_comm]
    exact congrArg₂ (· + ·) (Finset.sum_congr rfl fun k _ => h0 k) rfl

variable (m : (ℓ : Loc nD τ sig) → Buf (Elt Ideal) ℓ)

/-- From arguments that are the devices' parts of whole activations `O` and whole weights `A`, element `(b, r, n)` of
    device `c`'s result is element `(b, 512 y + r, n)` of the reference's, `y` the device's second coordinate. -/
theorem final_apply (O : WholeO) (A : WholeW)
    (h : ∀ c : Dev nD, m ((c : Thread nD τ).loc main_arg0) = headsOf c O ∧ m ((c : Thread nD τ).loc main_arg1) = weightsOf c A)
    (c : Dev nD) (b : Fin 2) (r : Fin 512) (n : Fin 2048) :
    outF (Xs m) (Ws m) c (ix3 b r n)
      = Ref.result O A (ix3 b (⟨512 * half c + r.val, by have := r.isLt; have := half_lt c; omega⟩ : Fin 1024) n) := by
  have hX : ∀ c, Xs m c = shapeCast S2x1024x1024 (headsOf c O) shapeCasts_S2x1024x16x64_S2x1024x1024 := fun c => by
    rw [Xs_eq, (h c).1]
  have hW : ∀ c, Ws m c = weightsOf c A := fun c => (V_main_arg1 m c).trans (h c).2
  rw [outF_apply (Xs m) (Ws m) c b r n ⟨512 * half c + r.val, by have := r.isLt; have := half_lt c; omega⟩ rfl, hX, hX, hW, hW, part_eq, part_eq]
  exact (halves (term O A b _ n) _ _ (half_lt c) (peer_y c)).trans (Ref.result_apply O A b _ n).symm

/-- From arguments that are the devices' parts of whole activations `O` and whole weights `A`, device `c`'s result is its
    rows of the reference's. -/
theorem final_block (O : WholeO) (A : WholeW)
    (h : ∀ c : Dev nD, m ((c : Thread nD τ).loc main_arg0) = headsOf c O ∧ m ((c : Thread nD τ).loc main_arg1) = weightsOf c A)
    (c : Dev nD) :
    final m c = Layout.blockN ⟨3, ![2, 512, 2048]⟩ ⟨3, ![2, 1024, 2048]⟩ (Layout.meshBlock [2, 2, 4] ![[], [1], []] c) (Ref.result O A) := by
  funext (i : (⟨3, ![2, 512, 2048]⟩ : Shape).Idx)
  rw [eq_ix3 i]
  refine (final_apply m O A h c (i 0) (i 1) (i 2)).trans (congrArg (Ref.result O A) ?_)
  funext a
  apply Fin.ext
  match a with
  | ⟨0, _⟩ => show (i 0).val = 0 * 2 + (i 0).val; omega
  | ⟨1, _⟩ => show 512 * half c + (i 1).val = (half c * 1 + 0) * 512 + (i 1).val; omega
  | ⟨2, _⟩ => show (i 2).val = 0 * 2048 + (i 2).val; omega

end Cert.OProj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Algebraic
public import Idealize.ShloMosaic.Adequacy
public import Idealize.ShloMosaic.Init

@[expose] public section

noncomputable section

namespace Cert.Proof

open Idealize.ShloMosaic Idealize.ShloMosaic.TcCoe Idealize.SL.Sem

/-- The kernel and its idealization have one body. -/
theorem body_same : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl

/-- So they have the same pipelined calls. -/
theorem defs_same : Cert.Kernel.defs (F := Bits) = Cert.KernelIdeal.defs (F := Bits) :=
  congrArg (Pipeline.defs Cert.KernelIdeal.pcfgs) body_same

/-- The kernel at bit-exact floats runs, its arguments end as launched and every counter ends at zero. -/
theorem frame_kernel : Cert.quiescent_Kernel := fun m ρ _ => by
  rw [defs_same]
  exact (θ_run Cert.KernelIdeal.defs (onTc (τ := Cert.KernelIdeal.τ) (Cert.KernelIdeal.main (F := Bits))) _).mono
    (fun r (h : _ ∧ _) => ⟨fun c => (h.1 c).2, h.2⟩) (OProj.run_main (F := Bits) m ρ)

/-- The kernel at the ideal floats runs, its arguments end as launched and every counter ends at zero. -/
theorem frame_kernelIdeal : Cert.quiescent_KernelIdeal := fun m ρ _ =>
  (θ_run Cert.KernelIdeal.defs _ _).mono (fun _ h => ⟨fun c => (h.1 c).2, h.2⟩) (OProj.run_main (F := Ideal) m ρ)

/-- The reference runs and its arguments end as launched; it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- Over the reals the kernel's result on each device is that device's rows of the reference's result. -/
theorem algebraic : Cert.algebraic_KernelIdeal_ReferenceIdeal := fun m ρ m' ρ' _ hagree =>
  ⟨OProj.Ref.result _ _,
    (θ_run Cert.KernelIdeal.defs _ _).mono
      (fun _ h c => ⟨(h.1 c).1.trans (OProj.final_block m _ _ hagree c), (h.1 c).2⟩) (OProj.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
